-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x128 : Shape := ⟨2, ![16384, 128]⟩
abbrev S16384 : Shape := ⟨1, ![16384]⟩
abbrev S16 : Shape := ⟨1, ![16]⟩
abbrev S_ : Shape := ⟨0, ![]⟩
abbrev S9x16384 : Shape := ⟨2, ![9, 16384]⟩
abbrev S512x128 : Shape := ⟨2, ![512, 128]⟩
abbrev S128 : Shape := ⟨1, ![128]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S9x16384 : S_.BroadcastsInDim S9x16384 (![] : Fin 0 → Fin S9x16384.rank)
  reducesTo_S9x16384_S_d0_1 : S9x16384.ReducesTo [0, 1] S_
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S16384x128 .f32) (main_arg1 : FVec F S16384 .f32) (main_arg2 : IVec S16384 32) (main_arg3 : IVec S16384 32) (main_arg4 : IVec S16384 32) (main_arg5 : IVec S16 32) (main_arg6 : IVec S_ 32) (main_arg7 : FVec F S9x16384 .f32) (main_arg8 : FVec F S9x16384 .f32) (main_arg9 : FVec F S512x128 .f32) (main_arg10 : FVec F S512x128 .f32) (main_arg11 : FVec F S128 .f32) (main_arg12 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S9x16384 .f32 := Host.absf main_arg7
  let main_cst_0 : FVec F S_ .f32 := constant S_ .f32 0x7F800000#32
  let main_v5 : FVec F S9x16384 .f32 := broadcastInDim S9x16384 ![] bcast_S_S9x16384 main_cst_0
  let main_v6 : IVec S9x16384 1 := cmpf .olt main_v4 main_v5
  let main_c_1 : IVec S_ 1 := constantI S_ 1 1#1
  let main_v7 : IVec S_ 1 := (fun x v => Host.reduce IntOp.andi x v reducesTo_S9x16384_S_d0_1 h_S_) main_v6 main_c_1
  let main_v8 : IVec S_ 1 := andi main_v3 main_v7
  let main_v9 : FVec F S512x128 .f32 := Host.absf main_arg9
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S16384x128 : Shape := ⟨2, ![16384, 128]⟩
abbrev S16384 : Shape := ⟨1, ![16384]⟩
abbrev S16 : Shape := ⟨1, ![16]⟩
abbrev S_ : Shape := ⟨0, ![]⟩
abbrev S9x16384 : Shape := ⟨2, ![9, 16384]⟩
abbrev S512x128 : Shape := ⟨2, ![512, 128]⟩
abbrev S128 : Shape := ⟨1, ![128]⟩
abbrev S9x128x128 : Shape := ⟨3, ![9, 128, 128]⟩
abbrev S128x4608 : Shape := ⟨2, ![128, 4608]⟩
abbrev S1x128x128 : Shape := ⟨3, ![1, 128, 128]⟩
abbrev S128x128 : Shape := ⟨2, ![128, 128]⟩
abbrev S128x512 : Shape := ⟨2, ![128, 512]⟩
abbrev S512 : Shape := ⟨1, ![512]⟩
abbrev S128x9x512 : Shape := ⟨3, ![128, 9, 512]⟩
abbrev S1x1x512 : Shape := ⟨3, ![1, 1, 512]⟩
abbrev S16x1024x128 : Shape := ⟨3, ![16, 1024, 128]⟩
abbrev S1x512 : Shape := ⟨2, ![1, 512]⟩
abbrev S1x128 : Shape := ⟨2, ![1, 128]⟩
abbrev S16x128x128 : Shape := ⟨3, ![16, 128, 128]⟩
abbrev S144x128 : Shape := ⟨2, ![144, 128]⟩
abbrev S9x128x16x512 : Shape := ⟨4, ![9, 128, 16, 512]⟩
abbrev S128x144x128 : Shape := ⟨3, ![128, 144, 128]⟩
abbrev S128x16x128 : Shape := ⟨3, ![128, 16, 128]⟩
abbrev S2048x128 : Shape := ⟨2, ![2048, 128]⟩
abbrev S2048x512 : Shape := ⟨2, ![2048, 512]⟩
abbrev S128x16x512 : Shape := ⟨3, ![128, 16, 512]⟩
abbrev S1x128x16x512 : Shape := ⟨4, ![1, 128, 16, 512]⟩
abbrev S9x1x16x512 : Shape := ⟨4, ![9, 1, 16, 512]⟩
abbrev S144x512 : Shape := ⟨2, ![144, 512]⟩
abbrev S1x144x128 : Shape := ⟨3, ![1, 144, 128]⟩
abbrev S128x16 : Shape := ⟨2, ![128, 16]⟩
abbrev S128x16x1 : Shape := ⟨3, ![128, 16, 1]⟩
abbrev S1x1x128 : Shape := ⟨3, ![1, 1, 128]⟩

abbrev nBuf : Space → Nat
  | .hbm => 49
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S16384, .f32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16, .i32⟩
  | .hbm, ⟨6, _⟩ => ⟨S_, .i32⟩
  | .hbm, ⟨7, _⟩ => ⟨S9x16384, .f32⟩
  | .hbm, ⟨8, _⟩ => ⟨S9x16384, .f32⟩
  | .hbm, ⟨9, _⟩ => ⟨S512x128, .f32⟩
  | .hbm, ⟨10, _⟩ => ⟨S512x128, .f32⟩
  | .hbm, ⟨11, _⟩ => ⟨S128, .f32⟩
  | .hbm, ⟨12, _⟩ => ⟨S128, .f32⟩
  | .hbm, ⟨13, _⟩ => ⟨S9x128x128, .f32⟩
  | .hbm, ⟨14, _⟩ => ⟨S128x4608, .f32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S128x9x512, .f32⟩
  | .hbm, ⟨29, _⟩ => ⟨S512, .f32⟩
  | .hbm, ⟨30, _⟩ => ⟨S1x1x512, .f32⟩
  | .hbm, ⟨31, _⟩ => ⟨S128x9x512, .f32⟩
  | .hbm, ⟨32, _⟩ => ⟨S128x9x512, .f32⟩
  | .hbm, ⟨33, _⟩ => ⟨S128x4608, .f32⟩
  | .hbm, ⟨34, _⟩ => ⟨S16x1024x128, .f32⟩
  | .hbm, ⟨35, _⟩ => ⟨S9x128x128, .f32⟩
  | .hbm, ⟨36, _⟩ => ⟨S9x128x128, .f32⟩
  | .hbm, ⟨37, _⟩ => ⟨S9x128x128, .bf16⟩
  | .hbm, ⟨38, _⟩ => ⟨S128x512, .f32⟩
  | .hbm, ⟨39, _⟩ => ⟨S512, .f32⟩
  | .hbm, ⟨40, _⟩ => ⟨S1x512, .f32⟩
  | .hbm, ⟨41, _⟩ => ⟨S128x512, .f32⟩
  | .hbm, ⟨42, _⟩ => ⟨S128x512, .f32⟩
  | .hbm, ⟨43, _⟩ => ⟨S128x512, .bf16⟩
  | .hbm, ⟨44, _⟩ => ⟨S128x4608, .bf16⟩
  | .hbm, ⟨45, _⟩ => ⟨S1x128, .f32⟩
  | .hbm, ⟨46, _⟩ => ⟨S1x128, .f32⟩
  | .hbm, ⟨47, _⟩ => ⟨S16x1024x128, .f32⟩
  | .hbm, ⟨48, _⟩ => ⟨S16384x128, .f32⟩
  | .local _ .vmem, ⟨0, _⟩ => ⟨S9x128x128, .f32⟩
  | .local _ .vmem, ⟨1, _⟩ => ⟨S512x128, .f32⟩
  | .local _ .vmem, ⟨2, _⟩ => ⟨S128x4608, .f32⟩
  | .local _ .vmem, ⟨3, _⟩ => ⟨S16x128x128, .f32⟩
  | .local _ .vmem, ⟨4, _⟩ => ⟨S16x128x128, .f32⟩
  | .local _ .vmem, ⟨5, _⟩ => ⟨S128x4608, .bf16⟩
  | .local _ .vmem, ⟨6, _⟩ => ⟨S128x512, .bf16⟩
  | .local _ .vmem, ⟨7, _⟩ => ⟨S9x128x128, .bf16⟩
  | .local _ .vmem, ⟨8, _⟩ => ⟨S1x128, .f32⟩
  | .local _ .vmem, ⟨9, _⟩ => ⟨S1x128, .f32⟩
  | .local _ .vmem, ⟨10, _⟩ => ⟨S16x128x128, .f32⟩
  | .local _ .vmem, ⟨11, _⟩ => ⟨S16x128x128, .f32⟩
  | .local _ .vmem, ⟨12, _⟩ => ⟨S144x128, .f32⟩
  | .local _ .vmem, ⟨13, _⟩ => ⟨S144x128, .f32⟩
  | .local _ .vmem, ⟨14, _⟩ => ⟨S9x128x16x512, .f32⟩
  | .local _ .vmem, ⟨15, _⟩ => ⟨S128x144x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg6_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem6_1 : DmaSem sig := 11

abbrev nD : Nat := 1
abbrev τ : Topo := Topo.v7x

variable {F : FTy → Type} [FloatOps F]

abbrev grid0 : Pipeline.Grid := .none

abbrev stage0_0 : Fin 1 → Memref sig .tc .vmem S9x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

@[reducible] def k1_t1_loop : Scf.Loop 32 :=
  let c0_i32_55 : BitVec 32 := 0#32
  let c128_i32 : BitVec 32 := 128#32
  let v76 : BitVec 32 := Scalar.addi c0_i32_55 c128_i32
  let c1_i32 : BitVec 32 := 1#32
  ⟨c0_i32_55, v76, c1_i32⟩
def k1_off1 (k1_t1 : Fin k1_t1_loop.trips) : Fin 4 → Nat :=
  let c0_129 : Index := 0#32
  let c0_i32_55 : BitVec 32 := 0#32
  let c1_i32 : BitVec 32 := 1#32
  let arg12 : BitVec 32 := Scf.iv c0_i32_55 c1_i32 k1_t1
  let v183 : Index := Scalar.indexCast arg12
  let c0_130 : Index := 0#32
  let c0_131 : Index := 0#32
  ![0, v183.toNat, 0, 0]
def k1_off2 (k1_t1 : Fin k1_t1_loop.trips) : Fin 3 → Nat :=
  let c0_i32_55 : BitVec 32 := 0#32
  let c1_i32 : BitVec 32 := 1#32
  let arg12 : BitVec 32 := Scf.iv c0_i32_55 c1_i32 k1_t1
  let v211 : Index := Scalar.indexCast arg12
  let c0_139 : Index := 0#32
  let c0_140 : Index := 0#32
  ![v211.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x4608 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S16384x128 : Shape := ⟨2, ![16384, 128]⟩
abbrev S16384 : Shape := ⟨1, ![16384]⟩
abbrev S16 : Shape := ⟨1, ![16]⟩
abbrev S_ : Shape := ⟨0, ![]⟩
abbrev S9x16384 : Shape := ⟨2, ![9, 16384]⟩
abbrev S512x128 : Shape := ⟨2, ![512, 128]⟩
abbrev S128 : Shape := ⟨1, ![128]⟩
abbrev S9x128x128 : Shape := ⟨3, ![9, 128, 128]⟩
abbrev S16384x9x128 : Shape := ⟨3, ![16384, 9, 128]⟩
abbrev S16x1024x9x128 : Shape := ⟨4, ![16, 1024, 9, 128]⟩
abbrev S16x9x1024x128 : Shape := ⟨4, ![16, 9, 1024, 128]⟩
abbrev S144x1024x128 : Shape := ⟨3, ![144, 1024, 128]⟩
abbrev S1024x144x128 : Shape := ⟨3, ![1024, 144, 128]⟩
abbrev S144x128 : Shape := ⟨2, ![144, 128]⟩
abbrev S1x144x128 : Shape := ⟨3, ![1, 144, 128]⟩
abbrev S128x512 : Shape := ⟨2, ![128, 512]⟩
abbrev S144x512 : Shape := ⟨2, ![144, 512]⟩
abbrev S9x128x16384 : Shape := ⟨3, ![9, 128, 16384]⟩
abbrev S16384x9 : Shape := ⟨2, ![16384, 9]⟩
abbrev S147456 : Shape := ⟨1, ![147456]⟩
abbrev S147456x128 : Shape := ⟨2, ![147456, 128]⟩
abbrev S147456x1 : Shape := ⟨2, ![147456, 1]⟩
abbrev S16384x1 : Shape := ⟨2, ![16384, 1]⟩
abbrev S1x128 : Shape := ⟨2, ![1, 128]⟩

abbrev nBuf : Space → Nat
  | .hbm => 142
  | .vmem => 0
  | .smem => 0
  | _ => 0

abbrev hbmTy0_0 (i : Nat) : BufTy := match i % 128 with
  | 0 => ⟨S16384x128, .f32⟩
  | 1 => ⟨S16384, .f32⟩
  | 2 => ⟨S16384, .i32⟩
  | 3 => ⟨S16384, .i32⟩
  | 4 => ⟨S16384, .i32⟩
  | 5 => ⟨S16, .i32⟩
  | 6 => ⟨S_, .i32⟩
  | 7 => ⟨S9x16384, .f32⟩
  | 8 => ⟨S9x16384, .f32⟩
  | 9 => ⟨S512x128, .f32⟩
  | 10 => ⟨S512x128, .f32⟩
  | 11 => ⟨S128, .f32⟩
  | 12 => ⟨S128, .f32⟩
  | 13 => ⟨S9x128x128, .f32⟩
  | 14 => ⟨S16384x9x128, .f32⟩
  | 15 => ⟨S16x1024x9x128, .f32⟩
  | 16 => ⟨S16x9x1024x128, .f32⟩
  | 17 => ⟨S144x1024x128, .f32⟩
  | 18 => ⟨S1024x144x128, .f32⟩
  | 19 => ⟨S_, .f32⟩
  | 20 => ⟨S144x128, .f32⟩
  | 21 => ⟨S_, .f32⟩
  | 22 => ⟨S1024x144x128, .f32⟩
  | 23 => ⟨S_, .i32⟩
  | 24 => ⟨S1024x144x128, .f32⟩
  | 25 => ⟨S512x128, .f32⟩
  | 26 => ⟨S512x128, .f32⟩
  | 27 => ⟨S_, .i32⟩
  | 28 => ⟨S144x128, .f32⟩
  | 29 => ⟨S144x128, .f32⟩
  | 30 => ⟨S1024x144x128, .f32⟩
  | 31 => ⟨S_, .i32⟩
  | 32 => ⟨S_, .i1⟩
  | 33 => ⟨S_, .i32⟩
  | 34 => ⟨S_, .i32⟩
  | 35 => ⟨S1x144x128, .f32⟩
  | 36 => ⟨S144x128, .f32⟩
  | 37 => ⟨S128x512, .f32⟩
  | 38 => ⟨S144x512, .f32⟩
  | 39 => ⟨S128x512, .f32⟩
  | 40 => ⟨S144x512, .f32⟩
  | 41 => ⟨S144x512, .f32⟩
  | 42 => ⟨S144x128, .f32⟩
  | 43 => ⟨S144x128, .f32⟩
  | 44 => ⟨S144x128, .f32⟩
  | 45 => ⟨S144x128, .f32⟩
  | 46 => ⟨S144x128, .f32⟩
  | 47 => ⟨S144x128, .f32⟩
  | 48 => ⟨S_, .f32⟩
  | 49 => ⟨S144x128, .f32⟩
  | 50 => ⟨S144x128, .f32⟩
  | 51 => ⟨S_, .f32⟩
  | 52 => ⟨S144x128, .f32⟩
  | 53 => ⟨S144x128, .f32⟩
  | 54 => ⟨S144x128, .f32⟩
  | 55 => ⟨S144x128, .f32⟩
  | 56 => ⟨S_, .f32⟩
  | 57 => ⟨S144x128, .f32⟩
  | 58 => ⟨S144x128, .f32⟩
  | 59 => ⟨S_, .f32⟩
  | 60 => ⟨S144x128, .f32⟩
  | 61 => ⟨S144x128, .f32⟩
  | 62 => ⟨S144x128, .f32⟩
  | 63 => ⟨S144x128, .f32⟩
  | 64 => ⟨S144x128, .f32⟩
  | 65 => ⟨S_, .f32⟩
  | 66 => ⟨S144x128, .f32⟩
  | 67 => ⟨S144x128, .f32⟩
  | 68 => ⟨S_, .f32⟩
  | 69 => ⟨S144x128, .f32⟩
  | 70 => ⟨S144x128, .f32⟩
  | 71 => ⟨S144x128, .f32⟩
  | 72 => ⟨S144x128, .f32⟩
  | 73 => ⟨S144x128, .f32⟩
  | 74 => ⟨S144x128, .f32⟩
  | 75 => ⟨S144x128, .f32⟩
  | 76 => ⟨S1x144x128, .f32⟩
  | 77 => ⟨S_, .i32⟩
  | 78 => ⟨S_, .i32⟩
  | 79 => ⟨S1024x144x128, .f32⟩
  | 80 => ⟨S_, .i32⟩
  | 81 => ⟨S_, .i32⟩
  | 82 => ⟨S144x1024x128, .f32⟩
  | 83 => ⟨S16x9x1024x128, .f32⟩
  | 84 => ⟨S16x1024x9x128, .f32⟩
  | 85 => ⟨S16384x9x128, .f32⟩
  | 86 => ⟨S9x128x128, .f32⟩
  | 87 => ⟨S9x128x16384, .f32⟩
  | 88 => ⟨S16384x9x128, .f32⟩
  | 89 => ⟨S16384, .i32⟩
  | 90 => ⟨S16384x9, .i32⟩
  | 91 => ⟨S147456, .i32⟩
  | 92 => ⟨S147456x128, .f32⟩
  | 93 => ⟨S_, .f32⟩
  | 94 => ⟨S16384x128, .f32⟩
  | 95 => ⟨S147456x1, .i32⟩
  | 96 => ⟨S16384x128, .f32⟩
  | 97 => ⟨S16384x128, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S_, .i32⟩
  | 105 => ⟨S_, .f32⟩
  | 106 => ⟨S16384, .f32⟩
  | 107 => ⟨S16384x1, .f32⟩
  | 108 => ⟨S_, .f32⟩
  | 109 => ⟨S16384x1, .f32⟩
  | 110 => ⟨S16384x1, .f32⟩
  | 111 => ⟨S16384x128, .f32⟩
  | 112 => ⟨S16384x128, .f32⟩
  | 113 => ⟨S16384x128, .f32⟩
  | 114 => ⟨S_, .f32⟩
  | 115 => ⟨S_, .f32⟩
  | 116 => ⟨S_, .f32⟩
  | 117 => ⟨S_, .f32⟩
  | 118 => ⟨S16384, .f32⟩
  | 119 => ⟨S16384x1, .f32⟩
  | 120 => ⟨S16384x1, .f32⟩
  | 121 => ⟨S16384x1, .f32⟩
  | 122 => ⟨S_, .f32⟩
  | 123 => ⟨S_, .i1⟩
  | 124 => ⟨S_, .f32⟩
  | 125 => ⟨S_, .f32⟩
  | 126 => ⟨S16384x1, .f32⟩
  | 127 => ⟨S16384x1, .f32⟩
  | _ => ⟨S16384x128, .f32⟩

abbrev hbmTy0_1 (i : Nat) : BufTy := match i % 128 with
  | 0 => ⟨S16384x128, .f32⟩
  | 1 => ⟨S16384x128, .f32⟩
  | 2 => ⟨S_, .f32⟩
  | 3 => ⟨S16384x1, .f32⟩
  | 4 => ⟨S16384x1, .f32⟩
  | 5 => ⟨S16384x1, .f32⟩
  | 6 => ⟨S16384x128, .f32⟩
  | 7 => ⟨S16384x128, .f32⟩
  | 8 => ⟨S1x128, .f32⟩
  | 9 => ⟨S16384x128, .f32⟩
  | 10 => ⟨S16384x128, .f32⟩
  | 11 => ⟨S1x128, .f32⟩
  | 12 => ⟨S16384x128, .f32⟩
  | 13 => ⟨S16384x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_c : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev main_v8_5 : Ref sig .tc := ⟨.hbm, 29, rfl⟩
abbrev main_v8_6 : Ref sig .tc := ⟨.hbm, 30, rfl⟩
abbrev main_while0c_c_12 : Ref sig .tc := ⟨.hbm, 31, rfl⟩
abbrev main_while0c_v42 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v42 : Ref sig .tc := ⟨.hbm, 36, rfl⟩
abbrev main_while0b_v43 : Ref sig .tc := ⟨.hbm, 37, rfl⟩
abbrev main_while0b_v44 : Ref sig .tc := ⟨.hbm, 38, rfl⟩
abbrev main_while0b_v45 : Ref sig .tc := ⟨.hbm, 39, rfl⟩
abbrev main_while0b_v46 : Ref sig .tc := ⟨.hbm, 40, rfl⟩
abbrev main_while0b_v47 : Ref sig .tc := ⟨.hbm, 41, rfl⟩
abbrev main_while0b_v48 : Ref sig .tc := ⟨.hbm, 42, rfl⟩
abbrev main_while0b_v49 : Ref sig .tc := ⟨.hbm, 43, rfl⟩
abbrev main_while0b_v50 : Ref sig .tc := ⟨.hbm, 44, rfl⟩
abbrev main_while0b_v51 : Ref sig .tc := ⟨.hbm, 45, rfl⟩
abbrev main_while0b_v52 : Ref sig .tc := ⟨.hbm, 46, rfl⟩
abbrev main_while0b_v53 : Ref sig .tc := ⟨.hbm, 47, rfl⟩
abbrev main_while0b_cst_12 : Ref sig .tc := ⟨.hbm, 48, rfl⟩
abbrev main_while0b_v54 : Ref sig .tc := ⟨.hbm, 49, rfl⟩
abbrev main_while0b_v55 : Ref sig .tc := ⟨.hbm, 50, rfl⟩
abbrev main_while0b_cst_13 : Ref sig .tc := ⟨.hbm, 51, rfl⟩
abbrev main_while0b_v56 : Ref sig .tc := ⟨.hbm, 52, rfl⟩
abbrev main_while0b_v57 : Ref sig .tc := ⟨.hbm, 53, rfl⟩
abbrev main_while0b_v58 : Ref sig .tc := ⟨.hbm, 54, rfl⟩
abbrev main_while0b_v59 : Ref sig .tc := ⟨.hbm, 55, rfl⟩
abbrev main_while0b_cst_14 : Ref sig .tc := ⟨.hbm, 56, rfl⟩
abbrev main_while0b_v60 : Ref sig .tc := ⟨.hbm, 57, rfl⟩
abbrev main_while0b_v61 : Ref sig .tc := ⟨.hbm, 58, rfl⟩
abbrev main_while0b_cst_15 : Ref sig .tc := ⟨.hbm, 59, rfl⟩
abbrev main_while0b_v62 : Ref sig .tc := ⟨.hbm, 60, rfl⟩
abbrev main_while0b_v63 : Ref sig .tc := ⟨.hbm, 61, rfl⟩
abbrev main_while0b_v64 : Ref sig .tc := ⟨.hbm, 62, rfl⟩
abbrev main_while0b_v65 : Ref sig .tc := ⟨.hbm, 63, rfl⟩
abbrev main_while0b_v66 : Ref sig .tc := ⟨.hbm, 64, rfl⟩
abbrev main_while0b_cst_16 : Ref sig .tc := ⟨.hbm, 65, rfl⟩
abbrev main_while0b_v67 : Ref sig .tc := ⟨.hbm, 66, rfl⟩
abbrev main_while0b_v68 : Ref sig .tc := ⟨.hbm, 67, rfl⟩
abbrev main_while0b_cst_17 : Ref sig .tc := ⟨.hbm, 68, rfl⟩
abbrev main_while0b_v69 : Ref sig .tc := ⟨.hbm, 69, rfl⟩
abbrev main_while0b_v70 : Ref sig .tc := ⟨.hbm, 70, rfl⟩
abbrev main_while0b_v71 : Ref sig .tc := ⟨.hbm, 71, rfl⟩
abbrev main_while0b_v72 : Ref sig .tc := ⟨.hbm, 72, rfl⟩
abbrev main_while0b_v73 : Ref sig .tc := ⟨.hbm, 73, rfl⟩
abbrev main_while0b_v74 : Ref sig .tc := ⟨.hbm, 74, rfl⟩
abbrev main_while0b_v75 : Ref sig .tc := ⟨.hbm, 75, rfl⟩
abbrev main_while0b_call1_v0 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_v76 : Ref sig .tc := ⟨.hbm, 79, rfl⟩
abbrev main_while0b_c_18 : Ref sig .tc := ⟨.hbm, 80, rfl⟩
abbrev main_while0b_v77 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_cst_1 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_cst_2 : Ref sig .tc := ⟨.hbm, 98, rfl⟩
abbrev main_v24 : Ref sig .tc := ⟨.hbm, 99, rfl⟩
abbrev main_v25 : Ref sig .tc := ⟨.hbm, 100, rfl⟩
abbrev main_cst_3 : Ref sig .tc := ⟨.hbm, 101, rfl⟩
abbrev main_v26 : Ref sig .tc := ⟨.hbm, 102, rfl⟩
abbrev main_v27 : Ref sig .tc := ⟨.hbm, 103, rfl⟩
abbrev main_c_4 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_cst_3 : Ref sig .tc := ⟨.hbm, 122, rfl⟩
abbrev main_call2_v13 : Ref sig .tc := ⟨.hbm, 123, rfl⟩
abbrev main_call2_cst_4 : Ref sig .tc := ⟨.hbm, 124, rfl⟩
abbrev main_call2_call0_v0 : Ref sig .tc := ⟨.hbm, 125, rfl⟩
abbrev main_call2_call0_v1 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_cst_5 : Ref sig .tc := ⟨.hbm, 130, rfl⟩
abbrev main_v31 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩

abbrev nD : Nat := 1
abbrev τ : Topo := Topo.v7x

variable {F : FTy → Type} [FloatOps F]

abbrev main_while0_count : Scf.Loop 32 := ⟨0#32, 1024#32, 1#32⟩
-- ==== Proof.Finite.lean ====
/- What the precondition says: every event, every scatter weight and every input weight is a finite number. -/
module

public import proofs.«01_k».proof.Pre_finite
public import Idealize.ShloMosaic.Lib.ReduceAll
public import Idealize.ShloMosaic.Lib.StableHlo.ReadAt
public import Idealize.ShloMosaic.Lib.Pointwise
public import Idealize.ShloMosaic.PureOps.Ideal

@[expose] public section

noncomputable section

namespace Cert.Pre_finite

open Idealize.ShloMosaic

/-- The side conditions of the precondition's operations. -/
theorem facts : Facts where
  bcast_S_S16384x128 := by decide
  reducesTo_S16384x128_S_d0_1 := by decide
  h_S_ := by decide
  bcast_S_S9x16384 := by decide
  reducesTo_S9x16384_S_d0_1 := by decide
  bcast_S_S512x128 := by decide
  reducesTo_S512x128_S_d0_1 := by decide

/-- A number whose magnitude is below infinity is finite. -/
theorem finite_of_lt (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  constructor
  · rintro rfl
    simp [Ideal.cmp] at h
  · rintro rfl
    simp [Ideal.cmp] at h

/-- An array whose magnitudes are all below infinity is finite. -/
theorem finite_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu
      = fun _ => 1#1) (i : s.Idx) : (x i : EReal) ≠ ⊤ ∧ (x i : EReal) ≠ ⊥ :=
  finite_of_lt _ (Host.reduce_andi_all _ _ hr hu ix0 (congrFun h ix0) i)

/-- The precondition, read back: the three arrays are finite. -/
theorem finite [Facts] (ev : FVec Ideal S16384x128 .f32) (a1 : FVec Ideal S16384 .f32) (a2 a3 a4 : IVec S16384 32) (a5 : IVec S16 32) (a6 : IVec S_ 32)
    (wsc a8 : FVec Ideal S9x16384 .f32) (wih a10 : FVec Ideal S512x128 .f32) (a11 a12 : FVec Ideal S128 .f32)
    (h : fn (F := Ideal) ev a1 a2 a3 a4 a5 a6 wsc a8 wih a10 a11 a12 = fun _ => 1#1) :
    (∀ i, (ev i : EReal) ≠ ⊤ ∧ (ev i : EReal) ≠ ⊥) ∧ (∀ i, (wsc i : EReal) ≠ ⊤ ∧ (wsc i : EReal) ≠ ⊥) ∧ (∀ i, (wih i : EReal) ≠ ⊤ ∧ (wih i : EReal) ≠ ⊥) := by
  have hand : ∀ x y : IVec S_ 1, andi x y = (fun _ => 1#1) → x = (fun _ => 1#1) ∧ y = fun _ => 1#1 := fun x y e =>
    ⟨funext fun i => (IntOp.andi_eq_one.1 (congrFun e i)).1, funext fun i => (IntOp.andi_eq_one.1 (congrFun e i)).2⟩
  obtain ⟨h01, h2⟩ := hand _ _ h
  obtain ⟨h0, h1⟩ := hand _ _ h01
  exact ⟨finite_of_all ev _ _ _ h0, finite_of_all wsc _ _ _ h1, finite_of_all wih _ _ _ h2⟩

end Cert.Pre_finite

end
-- ==== Proof.KernelIdeal.Body.lean ====
/- What one grid point of the second call computes, as functions of the blocks it reads and of the hidden and cell states it
   finds in scratch, and the triple of its body at those functions. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The whole block of events. -/
abbrev rEv : Rect S16x128x128 := Rect.unit (s := S16x128x128) ![0, 0, 0] S16x128x128.size inb_S16x128x128_S16x128x128_0_0_0
/-- The columns of the input projection for position 0. -/
abbrev rA0 : Rect S128x4608 := Rect.unit (s := S128x4608) ![0, 0] S128x512.size inb_S128x4608_S128x512_0_0
/-- Position 0's slab of the projected inputs. -/
abbrev rG0 : Rect S9x128x16x512 := Rect.unit (s := S9x128x16x512) ![0, 0, 0, 0] S1x128x16x512.size inb_S9x128x16x512_S1x128x16x512_0_0_0_0
/-- Position 0's rows of the hidden states. -/
abbrev rH0 : Rect S128x144x128 := Rect.unit (s := S128x144x128) ![0, 0, 0] S128x16x128.size inb_S128x144x128_S128x16x128_0_0_0
/-- Position 0's gather weights. -/
abbrev rW0 : Rect S9x128x128 := Rect.unit (s := S9x128x128) ![0, 0, 0] S1x128x128.size inb_S9x128x128_S1x128x128_0_0_0
/-- The columns of the input projection for position 1. -/
abbrev rA1 : Rect S128x4608 := Rect.unit (s := S128x4608) ![0, 512] S128x512.size inb_S128x4608_S128x512_0_512
/-- Position 1's slab of the projected inputs. -/
abbrev rG1 : Rect S9x128x16x512 := Rect.unit (s := S9x128x16x512) ![1, 0, 0, 0] S1x128x16x512.size inb_S9x128x16x512_S1x128x16x512_1_0_0_0
/-- Position 1's rows of the hidden states. -/
abbrev rH1 : Rect S128x144x128 := Rect.unit (s := S128x144x128) ![0, 16, 0] S128x16x128.size inb_S128x144x128_S128x16x128_0_16_0
/-- Position 1's gather weights. -/
abbrev rW1 : Rect S9x128x128 := Rect.unit (s := S9x128x128) ![1, 0, 0] S1x128x128.size inb_S9x128x128_S1x128x128_1_0_0
/-- The columns of the input projection for position 2. -/
abbrev rA2 : Rect S128x4608 := Rect.unit (s := S128x4608) ![0, 1024] S128x512.size inb_S128x4608_S128x512_0_1024
/-- Position 2's slab of the projected inputs. -/
abbrev rG2 : Rect S9x128x16x512 := Rect.unit (s := S9x128x16x512) ![2, 0, 0, 0] S1x128x16x512.size inb_S9x128x16x512_S1x128x16x512_2_0_0_0
/-- Position 2's rows of the hidden states. -/
abbrev rH2 : Rect S128x144x128 := Rect.unit (s := S128x144x128) ![0, 32, 0] S128x16x128.size inb_S128x144x128_S128x16x128_0_32_0
/-- Position 2's gather weights. -/
abbrev rW2 : Rect S9x128x128 := Rect.unit (s := S9x128x128) ![2, 0, 0] S1x128x128.size inb_S9x128x128_S1x128x128_2_0_0
/-- The columns of the input projection for position 3. -/
abbrev rA3 : Rect S128x4608 := Rect.unit (s := S128x4608) ![0, 1536] S128x512.size inb_S128x4608_S128x512_0_1536
/-- Position 3's slab of the projected inputs. -/
abbrev rG3 : Rect S9x128x16x512 := Rect.unit (s := S9x128x16x512) ![3, 0, 0, 0] S1x128x16x512.size inb_S9x128x16x512_S1x128x16x512_3_0_0_0
/-- Position 3's rows of the hidden states. -/
abbrev rH3 : Rect S128x144x128 := Rect.unit (s := S128x144x128) ![0, 48, 0] S128x16x128.size inb_S128x144x128_S128x16x128_0_48_0
/-- Position 3's gather weights. -/
abbrev rW3 : Rect S9x128x128 := Rect.unit (s := S9x128x128) ![3, 0, 0] S1x128x128.size inb_S9x128x128_S1x128x128_3_0_0
/-- The columns of the input projection for position 4. -/
abbrev rA4 : Rect S128x4608 := Rect.unit (s := S128x4608) ![0, 2048] S128x512.size inb_S128x4608_S128x512_0_2048
/-- Position 4's slab of the projected inputs. -/
abbrev rG4 : Rect S9x128x16x512 := Rect.unit (s := S9x128x16x512) ![4, 0, 0, 0] S1x128x16x512.size inb_S9x128x16x512_S1x128x16x512_4_0_0_0
/-- Position 4's rows of the hidden states. -/
abbrev rH4 : Rect S128x144x128 := Rect.unit (s := S128x144x128) ![0, 64, 0] S128x16x128.size inb_S128x144x128_S128x16x128_0_64_0
/-- Position 4's gather weights. -/
abbrev rW4 : Rect S9x128x128 := Rect.unit (s := S9x128x128) ![4, 0, 0] S1x128x128.size inb_S9x128x128_S1x128x128_4_0_0
/-- The columns of the input projection for position 5. -/
abbrev rA5 : Rect S128x4608 := Rect.unit (s := S128x4608) ![0, 2560] S128x512.size inb_S128x4608_S128x512_0_2560
/-- Position 5's slab of the projected inputs. -/
abbrev rG5 : Rect S9x128x16x512 := Rect.unit (s := S9x128x16x512) ![5, 0, 0, 0] S1x128x16x512.size inb_S9x128x16x512_S1x128x16x512_5_0_0_0
/-- Position 5's rows of the hidden states. -/
abbrev rH5 : Rect S128x144x128 := Rect.unit (s := S128x144x128) ![0, 80, 0] S128x16x128.size inb_S128x144x128_S128x16x128_0_80_0
/-- Position 5's gather weights. -/
abbrev rW5 : Rect S9x128x128 := Rect.unit (s := S9x128x128) ![5, 0, 0] S1x128x128.size inb_S9x128x128_S1x128x128_5_0_0
/-- The columns of the input projection for position 6. -/
abbrev rA6 : Rect S128x4608 := Rect.unit (s := S128x4608) ![0, 3072] S128x512.size inb_S128x4608_S128x512_0_3072
/-- Position 6's slab of the projected inputs. -/
abbrev rG6 : Rect S9x128x16x512 := Rect.unit (s := S9x128x16x512) ![6, 0, 0, 0] S1x128x16x512.size inb_S9x128x16x512_S1x128x16x512_6_0_0_0
/-- Position 6's rows of the hidden states. -/
abbrev rH6 : Rect S128x144x128 := Rect.unit (s := S128x144x128) ![0, 96, 0] S128x16x128.size inb_S128x144x128_S128x16x128_0_96_0
/-- Position 6's gather weights. -/
abbrev rW6 : Rect S9x128x128 := Rect.unit (s := S9x128x128) ![6, 0, 0] S1x128x128.size inb_S9x128x128_S1x128x128_6_0_0
/-- The columns of the input projection for position 7. -/
abbrev rA7 : Rect S128x4608 := Rect.unit (s := S128x4608) ![0, 3584] S128x512.size inb_S128x4608_S128x512_0_3584
/-- Position 7's slab of the projected inputs. -/
abbrev rG7 : Rect S9x128x16x512 := Rect.unit (s := S9x128x16x512) ![7, 0, 0, 0] S1x128x16x512.size inb_S9x128x16x512_S1x128x16x512_7_0_0_0
/-- Position 7's rows of the hidden states. -/
abbrev rH7 : Rect S128x144x128 := Rect.unit (s := S128x144x128) ![0, 112, 0] S128x16x128.size inb_S128x144x128_S128x16x128_0_112_0
/-- Position 7's gather weights. -/
abbrev rW7 : Rect S9x128x128 := Rect.unit (s := S9x128x128) ![7, 0, 0] S1x128x128.size inb_S9x128x128_S1x128x128_7_0_0
/-- The columns of the input projection for position 8. -/
abbrev rA8 : Rect S128x4608 := Rect.unit (s := S128x4608) ![0, 4096] S128x512.size inb_S128x4608_S128x512_0_4096
/-- Position 8's slab of the projected inputs. -/
abbrev rG8 : Rect S9x128x16x512 := Rect.unit (s := S9x128x16x512) ![8, 0, 0, 0] S1x128x16x512.size inb_S9x128x16x512_S1x128x16x512_8_0_0_0
/-- Position 8's rows of the hidden states. -/
abbrev rH8 : Rect S128x144x128 := Rect.unit (s := S128x144x128) ![0, 128, 0] S128x16x128.size inb_S128x144x128_S128x16x128_0_128_0
/-- Position 8's gather weights. -/
abbrev rW8 : Rect S9x128x128 := Rect.unit (s := S9x128x128) ![8, 0, 0] S1x128x128.size inb_S9x128x128_S1x128x128_8_0_0
/-- The whole of the recurrent weights. -/
abbrev rR : Rect S128x512 := Rect.unit (s := S128x512) ![0, 0] S128x512.size inb_S128x512_S128x512_0_0
/-- A whole layer-norm row. -/
abbrev rL : Rect S1x128 := Rect.unit (s := S1x128) ![0, 0] S1x128.size inb_S1x128_S1x128_0_0
/-- A whole state. -/
abbrev rS : Rect S144x128 := Rect.unit (s := S144x128) ![0, 0] S144x128.size inb_S144x128_S144x128_0_0
/-- The projected inputs at time `k` of the block. -/
abbrev rT (k : Fin k1_t1_loop.trips) : Rect S9x128x16x512 := Rect.unit (s := S9x128x16x512) (k1_off1 k) S9x1x16x512.size (k1_off1_inb k)
/-- The hidden states at time `k` of the block. -/
abbrev rO (k : Fin k1_t1_loop.trips) : Rect S128x144x128 := Rect.unit (s := S128x144x128) (k1_off2 k) S1x144x128.size (k1_off2_inb k)

/-- The projected inputs of a block: nine slabs, one per position, last written first. -/
def gxF (x0 : Vec F S16x128x128 .f32) (x1 : Vec F S128x4608 .bf16) : Vec F S9x128x16x512 .f32 :=
  View.canon [⟨rG8, k1_pay13 (k1_pay4 (View.ld x0 rEv)) (View.ld x1 rA8)⟩,
    ⟨rG7, k1_pay12 (k1_pay4 (View.ld x0 rEv)) (View.ld x1 rA7)⟩,
    ⟨rG6, k1_pay11 (k1_pay4 (View.ld x0 rEv)) (View.ld x1 rA6)⟩,
    ⟨rG5, k1_pay10 (k1_pay4 (View.ld x0 rEv)) (View.ld x1 rA5)⟩,
    ⟨rG4, k1_pay9 (k1_pay4 (View.ld x0 rEv)) (View.ld x1 rA4)⟩,
    ⟨rG3, k1_pay8 (k1_pay4 (View.ld x0 rEv)) (View.ld x1 rA3)⟩,
    ⟨rG2, k1_pay7 (View.ld x0 rEv) (View.ld x1 rA2)⟩,
    ⟨rG1, k1_pay6 (View.ld x0 rEv) (View.ld x1 rA1)⟩,
    ⟨rG0, k1_pay5 (View.ld x0 rEv) (View.ld x1 rA0)⟩]

/-- The state of the recurrence: the hidden state (rounded) and the cell state. -/
abbrev St (F : FTy → Type) : Type := FVec F S144x128 .bf16 × Vec F S144x128 .f32

/-- The state before step `k` of the block, from the state `init` at the block's start. -/
def stF (w : Vec F S128x512 .bf16) (gx : Vec F S9x128x16x512 .f32) (init : St F) : ℕ → St F
  | 0 => init
  | k + 1 =>
    if hk : k < k1_t1_loop.trips then
      (k1_pay19 w (stF w gx init k).1 (stF w gx init k).2 (View.ld gx (rT ⟨k, hk⟩)),
        k1_pay16 w (stF w gx init k).1 (stF w gx init k).2 (View.ld gx (rT ⟨k, hk⟩)))
    else stF w gx init k

/-- The hidden states written in the steps before `k`, last first. -/
def pcF (w : Vec F S128x512 .bf16) (gx : Vec F S9x128x16x512 .f32) (init : St F) : ℕ → List (View.Piece (Elt F) S128x144x128 .f32)
  | 0 => []
  | k + 1 =>
    if hk : k < k1_t1_loop.trips then
      ⟨rO ⟨k, hk⟩, k1_pay18 w (stF w gx init k).1 (stF w gx init k).2 (View.ld gx (rT ⟨k, hk⟩))⟩ :: pcF w gx init k
    else pcF w gx init k

theorem stF_succ (w : Vec F S128x512 .bf16) (gx : Vec F S9x128x16x512 .f32) (init : St F) (k : Fin k1_t1_loop.trips) :
    stF w gx init (k.val + 1) = (k1_pay19 w (stF w gx init k).1 (stF w gx init k).2 (View.ld gx (rT k)),
        k1_pay16 w (stF w gx init k).1 (stF w gx init k).2 (View.ld gx (rT k))) := by
  rw [stF]; exact dif_pos k.isLt

theorem pcF_succ (w : Vec F S128x512 .bf16) (gx : Vec F S9x128x16x512 .f32) (init : St F) (k : Fin k1_t1_loop.trips) :
    pcF w gx init (k.val + 1) = ⟨rO k, k1_pay18 w (stF w gx init k).1 (stF w gx init k).2 (View.ld gx (rT k))⟩ :: pcF w gx init k := by
  rw [pcF]; exact dif_pos k.isLt

/-- The hidden states of a block, all its steps run. -/
def hsF (w : Vec F S128x512 .bf16) (gx : Vec F S9x128x16x512 .f32) (init : St F) : Vec F S128x144x128 .f32 :=
  View.canon (pcF w gx init k1_t1_loop.trips)

/-- The state a block starts from, read off the scratch contents. -/
def initF (h c : Vec F S144x128 .f32) : St F := (k1_pay14 (View.ld h rS), View.ld c rS)

/-- The hidden state a block leaves in scratch. -/
def hOutF (x0 : Vec F S16x128x128 .f32) (x1 : Vec F S128x4608 .bf16) (x2 : Vec F S128x512 .bf16) (h c : Vec F S144x128 .f32) : Vec F S144x128 .f32 :=
  k1_pay20 (stF (View.ld x2 rR) (gxF x0 x1) (initF h c) k1_t1_loop.trips).1

/-- The cell state a block leaves in scratch. -/
def cOutF (x0 : Vec F S16x128x128 .f32) (x1 : Vec F S128x4608 .bf16) (x2 : Vec F S128x512 .bf16) (h c : Vec F S144x128 .f32) : Vec F S144x128 .f32 :=
  k1_pay21 (stF (View.ld x2 rR) (gxF x0 x1) (initF h c) k1_t1_loop.trips).2

/-- The block of results, from the block's hidden states. -/
def epiF (x0 : Vec F S16x128x128 .f32) (x3 : Vec F S9x128x128 .bf16) (x4 x5 : Vec F S1x128 .f32) (hs : Vec F S128x144x128 .f32) : Vec F S16x128x128 .f32 :=
  k1_pay25 (k1_pay3 (View.ld x0 rEv))
    (k1_pay23 (k1_pay22 (View.ld hs rH0) (View.ld x3 rW0) (View.ld hs rH1) (View.ld x3 rW1) (View.ld hs rH2) (View.ld x3 rW2) (View.ld hs rH3) (View.ld x3 rW3))
      (View.ld hs rH4) (View.ld x3 rW4) (View.ld hs rH5) (View.ld x3 rW5) (View.ld hs rH6) (View.ld x3 rW6) (View.ld hs rH7) (View.ld x3 rW7))
    (k1_pay24 (View.ld hs rH8)) (View.ld x3 rW8) (View.ld x4 rL) (View.ld x5 rL)

/-- The block of results of a grid point. -/
def outF (x0 : Vec F S16x128x128 .f32) (x1 : Vec F S128x4608 .bf16) (x2 : Vec F S128x512 .bf16) (x3 : Vec F S9x128x128 .bf16) (x4 x5 : Vec F S1x128 .f32)
    (h c : Vec F S144x128 .f32) : Vec F S16x128x128 .f32 :=
  epiF x0 x3 x4 x5 (hsF (View.ld x2 rR) (gxF x0 x1) (initF h c))

/-- Every hidden state of the block is written: the state at time `k` by step `k`. -/
theorem cover_pcF (w : Vec F S128x512 .bf16) (gx : Vec F S9x128x16x512 .f32) (init : St F) (y : S128x144x128.Idx) :
    ∃ pc ∈ pcF w gx init k1_t1_loop.trips, y ∈ pc.1.set := by
  have key : ∀ n, n ≤ k1_t1_loop.trips → ∀ y : S128x144x128.Idx, (y 0).val < n → ∃ pc ∈ pcF w gx init n, y ∈ pc.1.set := by
    intro n
    induction n with
    | zero => intro _ y hy; exact absurd hy (Nat.not_lt_zero _)
    | succ n ih =>
      intro hn y hy
      rw [pcF_succ w gx init ⟨n, hn⟩]
      by_cases h : (y 0).val < n
      · obtain ⟨pc, hm, hs⟩ := ih (by omega) y h
        exact ⟨pc, List.mem_cons_of_mem _ hm, hs⟩
      · refine ⟨_, List.mem_cons_self, ?_⟩
        refine (Rect.mem_set_unit (inb := k1_off2_inb ⟨n, hn⟩)).mpr fun a => ?_
        rw [k1_off2_eq]
        fin_cases a
        · show n ≤ (y 0).val ∧ (y 0).val < n + 1
          omega
        · show 0 ≤ (y 1).val ∧ (y 1).val < 0 + 144
          have := (y 1).isLt
          exact ⟨Nat.zero_le _, by rw [Nat.zero_add]; exact this⟩
        · show 0 ≤ (y 2).val ∧ (y 2).val < 0 + 128
          have := (y 2).isLt
          exact ⟨Nat.zero_le _, by rw [Nat.zero_add]; exact this⟩
  exact key _ le_rfl y (y 0).isLt

/-- One step of the counted loop yields the next hidden and cell state. -/
theorem trip_yield (c : Dev nD) (i : grid1.Coords) (arg1 : Memref sig .tc .vmem S16x128x128 .f32) (harg1 : arg1.IsWhole) (arg2 : Memref sig .tc .vmem S128x4608 .bf16) (harg2 : arg2.IsWhole) (arg3 : Memref sig .tc .vmem S128x512 .bf16) (harg3 : arg3.IsWhole) (arg4 : Memref sig .tc .vmem S9x128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S16x128x128 .f32) (harg7 : arg7.IsWhole) (arg8 : Memref sig .tc .vmem S144x128 .f32) (harg8 : arg8.IsWhole) (arg9 : Memref sig .tc .vmem S144x128 .f32) (harg9 : arg9.IsWhole) (arg10 : Memref sig .tc .vmem S9x128x16x512 .f32) (harg10 : arg10.IsWhole) (arg11 : Memref sig .tc .vmem S128x144x128 .f32) (harg11 : arg11.IsWhole) (v7 : FVec F S2048x128 .bf16) (w : Vec F S128x512 .bf16) (X : BufTy.Contents (Elt F) arg10.view.ty) (k : Fin k1_t1_loop.trips) (acc : St F) :
    tripR_k1_t1 (F := F) Variants.none c none i arg1 harg1 arg2 harg2 arg3 harg3 arg4 harg4 arg5 harg5 arg6 harg6 arg7 harg7 arg8 harg8 arg9 harg9 arg10 harg10 arg11 harg11 v7 w X k acc
      = (k1_pay19 w acc.1 acc.2 (View.ld (arg10.view.read (Elt F) X) (rT k)), k1_pay16 w acc.1 acc.2 (View.ld (arg10.view.read (Elt F) X) (rT k))) := by
  unfold tripR_k1_t1 trip_k1_t1
  rfl

/-- One step of the counted loop writes the new hidden state at its time. -/
theorem trip_store (c : Dev nD) (i : grid1.Coords) (arg1 : Memref sig .tc .vmem S16x128x128 .f32) (harg1 : arg1.IsWhole) (arg2 : Memref sig .tc .vmem S128x4608 .bf16) (harg2 : arg2.IsWhole) (arg3 : Memref sig .tc .vmem S128x512 .bf16) (harg3 : arg3.IsWhole) (arg4 : Memref sig .tc .vmem S9x128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S16x128x128 .f32) (harg7 : arg7.IsWhole) (arg8 : Memref sig .tc .vmem S144x128 .f32) (harg8 : arg8.IsWhole) (arg9 : Memref sig .tc .vmem S144x128 .f32) (harg9 : arg9.IsWhole) (arg10 : Memref sig .tc .vmem S9x128x16x512 .f32) (harg10 : arg10.IsWhole) (arg11 : Memref sig .tc .vmem S128x144x128 .f32) (harg11 : arg11.IsWhole) (v7 : FVec F S2048x128 .bf16) (w : Vec F S128x512 .bf16) (X : BufTy.Contents (Elt F) arg10.view.ty) (k : Fin k1_t1_loop.trips) (acc : St F) :
    tripL_k1_t1 (F := F) Variants.none c none i arg1 harg1 arg2 harg2 arg3 harg3 arg4 harg4 arg5 harg5 arg6 harg6 arg7 harg7 arg8 harg8 arg9 harg9 arg10 harg10 arg11 harg11 v7 w X k acc
      = [⟨rO k, k1_pay18 w acc.1 acc.2 (View.ld (arg10.view.read (Elt F) X) (rT k))⟩] := by
  unfold tripL_k1_t1 trip_k1_t1
  rfl

/-- The counted loop's state is the recurrence's, and its writes are the hidden states'. -/
theorem loop_state (c : Dev nD) (i : grid1.Coords) (arg1 : Memref sig .tc .vmem S16x128x128 .f32) (harg1 : arg1.IsWhole) (arg2 : Memref sig .tc .vmem S128x4608 .bf16) (harg2 : arg2.IsWhole) (arg3 : Memref sig .tc .vmem S128x512 .bf16) (harg3 : arg3.IsWhole) (arg4 : Memref sig .tc .vmem S9x128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S16x128x128 .f32) (harg7 : arg7.IsWhole) (arg8 : Memref sig .tc .vmem S144x128 .f32) (harg8 : arg8.IsWhole) (arg9 : Memref sig .tc .vmem S144x128 .f32) (harg9 : arg9.IsWhole) (arg10 : Memref sig .tc .vmem S9x128x16x512 .f32) (harg10 : arg10.IsWhole) (arg11 : Memref sig .tc .vmem S128x144x128 .f32) (harg11 : arg11.IsWhole) (v7 : FVec F S2048x128 .bf16) (w : Vec F S128x512 .bf16) (X : BufTy.Contents (Elt F) arg10.view.ty) (init : St F) (n : ℕ) (hn : n ≤ k1_t1_loop.trips) :
    st_k1_t1 (F := F) Variants.none c none i arg1 harg1 arg2 harg2 arg3 harg3 arg4 harg4 arg5 harg5 arg6 harg6 arg7 harg7 arg8 harg8 arg9 harg9 arg10 harg10 arg11 harg11 v7 w X init n
      = (stF w (arg10.view.read (Elt F) X) init n, pcF w (arg10.view.read (Elt F) X) init n) := by
  induction n with
  | zero => rfl
  | succ n ih =>
    have ih := ih (by omega)
    have e := st_k1_t1_succ (F := F) Variants.none c none i arg1 harg1 arg2 harg2 arg3 harg3 arg4 harg4 arg5 harg5 arg6 harg6 arg7 harg7 arg8 harg8 arg9 harg9 arg10 harg10 arg11 harg11 v7 w X init ⟨n, hn⟩
    have e1 := stF_succ w (arg10.view.read (Elt F) X) init ⟨n, hn⟩
    have e2 := pcF_succ w (arg10.view.read (Elt F) X) init ⟨n, hn⟩
    dsimp only at e e1 e2
    rw [e, ih, trip_yield, trip_store, e1, e2]
    rfl

set_option maxHeartbeats 400000 in
/-- A grid point after the first: it continues from the states it finds in scratch. -/
theorem body_later (c : Dev nD) (i : grid1.Coords) (hi : ¬ (Scalar.cmpi .ne (Scalar.extui (Scalar.cmpi .eq (BitVec.ofNat 32 (i 0).val) 0#32)) 0#32 : BitVec 1) = 1#1) (arg1 : Memref sig .tc .vmem S16x128x128 .f32) (harg1 : arg1.IsWhole) (arg2 : Memref sig .tc .vmem S128x4608 .bf16) (harg2 : arg2.IsWhole) (arg3 : Memref sig .tc .vmem S128x512 .bf16) (harg3 : arg3.IsWhole) (arg4 : Memref sig .tc .vmem S9x128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S16x128x128 .f32) (harg7 : arg7.IsWhole) (arg8 : Memref sig .tc .vmem S144x128 .f32) (harg8 : arg8.IsWhole) (arg9 : Memref sig .tc .vmem S144x128 .f32) (harg9 : arg9.IsWhole) (arg10 : Memref sig .tc .vmem S9x128x16x512 .f32) (harg10 : arg10.IsWhole) (arg11 : Memref sig .tc .vmem S128x144x128 .f32) (harg11 : arg11.IsWhole)
    (x0 : Vec F S16x128x128 .f32) (x1 : Vec F S128x4608 .bf16) (x2 : Vec F S128x512 .bf16) (x3 : Vec F S9x128x128 .bf16) (x4 : Vec F S1x128 .f32) (x5 : Vec F S1x128 .f32) (h : Vec F S144x128 .f32) (cc : Vec F S144x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare h ∗ owns (c : Thread nD τ) arg9 fullShare cc ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outF x0 x1 x2 x3 x4 x5 h cc) ∗ owns (c : Thread nD τ) arg8 fullShare (hOutF x0 x1 x2 h cc) ∗ owns (c : Thread nD τ) arg9 fullShare (cOutF x0 x1 x2 h cc) ∗ (∃ d, owns (c : Thread nD τ) arg10 fullShare d) ∗ (∃ d, owns (c : Thread nD τ) arg11 fullShare d)) -∗ K ⟨⟩))
      ⊢ wp frame (wpE (defs₀ (F := F)) Variants.none c none) E (cc1__lstm_body i arg1 harg1 arg2 harg2 arg3 harg3 arg4 harg4 arg5 harg5 arg6 harg6 arg7 harg7 arg8 harg8 arg9 harg9 arg10 harg10 arg11 harg11) K := by
  simp only [cc1__lstm_body_eq_skeleton]; unfold cc1__lstm_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hfs0; obtain rfl := harg9.eq_unread hfs1
  sl_exec
  have hG : arg10.view.read (Elt F) (arg10.view.writes (Elt F) arg10.view.junk (body_later.sl.HS2_9 c arg1 harg1 arg2 harg2 x0 x1)) = gxF x0 x1 := by
    rw [View.read_writes_junk_eq_canon]
    unfold body_later.sl.HS2_9 body_later.sl.r_1 gxF
    simp only [View.readAt_eq_ld, harg1.read_unread, harg2.read_unread]
  have hW : View.readAt (Elt F) arg3.view rR.toLoadRect (harg3.unread x2) = View.ld x2 rR := by
    rw [View.readAt_eq_ld, harg3.read_unread]
  have hI : (k1_pay14 (View.readAt (Elt F) arg8.view rS.toLoadRect (harg8.unread h)), View.readAt (Elt F) arg9.view rS.toLoadRect (harg9.unread cc)) = initF h cc := by
    rw [View.readAt_eq_ld, View.readAt_eq_ld, harg8.read_unread, harg9.read_unread]; rfl
  have hL : ∀ v7, st_k1_t1 (F := F) Variants.none c none i arg1 harg1 arg2 harg2 arg3 harg3 arg4 harg4 arg5 harg5 arg6 harg6 arg7 harg7 arg8 harg8 arg9 harg9 arg10 harg10 arg11 harg11 v7 (View.readAt (Elt F) arg3.view rR.toLoadRect (harg3.unread x2)) (arg10.view.writes (Elt F) arg10.view.junk (body_later.sl.HS2_9 c arg1 harg1 arg2 harg2 x0 x1)) (k1_pay14 (View.readAt (Elt F) arg8.view rS.toLoadRect (harg8.unread h)), View.readAt (Elt F) arg9.view rS.toLoadRect (harg9.unread cc)) k1_t1_loop.trips
      = (stF (View.ld x2 rR) (gxF x0 x1) (initF h cc) k1_t1_loop.trips, pcF (View.ld x2 rR) (gxF x0 x1) (initF h cc) k1_t1_loop.trips) := fun v7 => by
    rw [hW, hI, loop_state (hn := le_rfl), hG]
  have hHS : ∀ v7, arg11.view.read (Elt F) (arg11.view.writes (Elt F) fs3 (st_k1_t1 (F := F) Variants.none c none i arg1 harg1 arg2 harg2 arg3 harg3 arg4 harg4 arg5 harg5 arg6 harg6 arg7 harg7 arg8 harg8 arg9 harg9 arg10 harg10 arg11 harg11 v7 (View.readAt (Elt F) arg3.view rR.toLoadRect (harg3.unread x2)) (arg10.view.writes (Elt F) arg10.view.junk (body_later.sl.HS2_9 c arg1 harg1 arg2 harg2 x0 x1)) (k1_pay14 (View.readAt (Elt F) arg8.view rS.toLoadRect (harg8.unread h)), View.readAt (Elt F) arg9.view rS.toLoadRect (harg9.unread cc)) k1_t1_loop.trips).2) = hsF (View.ld x2 rR) (gxF x0 x1) (initF h cc) := fun v7 => by
    rw [hL]; exact View.read_writes_eq_canon _ _ _ (cover_pcF _ _ _)
  have hv0 : body_later.sl.v86 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH0 :=
    congrArg (fun X => View.ld X rH0) (hHS _)
  have hv1 : body_later.sl.v93 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH1 :=
    congrArg (fun X => View.ld X rH1) (hHS _)
  have hv2 : body_later.sl.v100 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH2 :=
    congrArg (fun X => View.ld X rH2) (hHS _)
  have hv3 : body_later.sl.v107 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH3 :=
    congrArg (fun X => View.ld X rH3) (hHS _)
  have hv4 : body_later.sl.v114 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH4 :=
    congrArg (fun X => View.ld X rH4) (hHS _)
  have hv5 : body_later.sl.v121 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH5 :=
    congrArg (fun X => View.ld X rH5) (hHS _)
  have hv6 : body_later.sl.v128 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH6 :=
    congrArg (fun X => View.ld X rH6) (hHS _)
  have hv7 : body_later.sl.v135 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH7 :=
    congrArg (fun X => View.ld X rH7) (hHS _)
  have hv8 : body_later.sl.v142 c i arg1 harg1 arg2 harg2 arg3 harg3 arg4 harg4 arg5 harg5 arg6 harg6 arg7 harg7 arg8 harg8 arg9 harg9 arg10 harg10 arg11 harg11 x0 x1 x2 h cc fs3 = View.ld (hsF (View.ld x2 rR) (gxF x0 x1) (initF h cc)) rH8 :=
    congrArg (fun X => View.ld X rH8) (hHS _)
  have ha1 : ∀ r : Rect S16x128x128, View.readAt (Elt F) arg1.view r.toLoadRect (harg1.unread x0) = View.ld x0 r := fun r => by rw [View.readAt_eq_ld, harg1.read_unread]
  have ha4 : ∀ r : Rect S9x128x128, View.readAt (Elt F) arg4.view r.toLoadRect (harg4.unread x3) = View.ld x3 r := fun r => by rw [View.readAt_eq_ld, harg4.read_unread]
  have ha5 : ∀ r : Rect S1x128, View.readAt (Elt F) arg5.view r.toLoadRect (harg5.unread x4) = View.ld x4 r := fun r => by rw [View.readAt_eq_ld, harg5.read_unread]
  have ha6 : ∀ r : Rect S1x128, View.readAt (Elt F) arg6.view r.toLoadRect (harg6.unread x5) = View.ld x5 r := fun r => by rw [View.readAt_eq_ld, harg6.read_unread]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans ?_
    unfold body_later.sl.r body_later.sl.r_3 body_later.sl.r_4 body_later.sl.r_2 outF epiF
    rw [hv0, hv1, hv2, hv3, hv4, hv5, hv6, hv7, hv8]
    rw [ha1 rEv, ha4 rW0, ha4 rW1, ha4 rW2, ha4 rW3, ha4 rW4, ha4 rW5, ha4 rW6, ha4 rW7, ha4 rW8, ha5 rL, ha6 rL]
  isplitl [HS0]
  · iexists _; isplitr; swap; · iexact HS0
    ipureintro
    refine (View.read_writes_full _ _ _ _ _).trans ?_
    exact congrArg (fun s : St F × List (View.Piece (Elt F) S128x144x128 .f32) => k1_pay20 s.1.1) (hL _)
  isplitl [HS1]
  · iexists _; isplitr; swap; · iexact HS1
    ipureintro
    refine (View.read_writes_full _ _ _ _ _).trans ?_
    exact congrArg (fun s : St F × List (View.Piece (Elt F) S128x144x128 .f32) => k1_pay21 s.1.2) (hL _)
  isplitl [HS2]
  · iexists _, _; isplitr; swap; · iexact HS2
    ipureintro; rfl
  iexists _, _; isplitr; swap; · iexact HS3
  ipureintro; rfl

set_option maxHeartbeats 400000 in
/-- The first grid point: it starts from zero states, whatever scratch holds. -/
theorem body_first (c : Dev nD) (i : grid1.Coords) (hi : (Scalar.cmpi .ne (Scalar.extui (Scalar.cmpi .eq (BitVec.ofNat 32 (i 0).val) 0#32)) 0#32 : BitVec 1) = 1#1) (arg1 : Memref sig .tc .vmem S16x128x128 .f32) (harg1 : arg1.IsWhole) (arg2 : Memref sig .tc .vmem S128x4608 .bf16) (harg2 : arg2.IsWhole) (arg3 : Memref sig .tc .vmem S128x512 .bf16) (harg3 : arg3.IsWhole) (arg4 : Memref sig .tc .vmem S9x128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S16x128x128 .f32) (harg7 : arg7.IsWhole) (arg8 : Memref sig .tc .vmem S144x128 .f32) (harg8 : arg8.IsWhole) (arg9 : Memref sig .tc .vmem S144x128 .f32) (harg9 : arg9.IsWhole) (arg10 : Memref sig .tc .vmem S9x128x16x512 .f32) (harg10 : arg10.IsWhole) (arg11 : Memref sig .tc .vmem S128x144x128 .f32) (harg11 : arg11.IsWhole)
    (x0 : Vec F S16x128x128 .f32) (x1 : Vec F S128x4608 .bf16) (x2 : Vec F S128x512 .bf16) (x3 : Vec F S9x128x128 .bf16) (x4 : Vec F S1x128 .f32) (x5 : Vec F S1x128 .f32) (h : Vec F S144x128 .f32) (cc : Vec F S144x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare h ∗ owns (c : Thread nD τ) arg9 fullShare cc ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outF x0 x1 x2 x3 x4 x5 k1_pay1 k1_pay2) ∗ owns (c : Thread nD τ) arg8 fullShare (hOutF x0 x1 x2 k1_pay1 k1_pay2) ∗ owns (c : Thread nD τ) arg9 fullShare (cOutF x0 x1 x2 k1_pay1 k1_pay2) ∗ (∃ d, owns (c : Thread nD τ) arg10 fullShare d) ∗ (∃ d, owns (c : Thread nD τ) arg11 fullShare d)) -∗ K ⟨⟩))
      ⊢ wp frame (wpE (defs₀ (F := F)) Variants.none c none) E (cc1__lstm_body i arg1 harg1 arg2 harg2 arg3 harg3 arg4 harg4 arg5 harg5 arg6 harg6 arg7 harg7 arg8 harg8 arg9 harg9 arg10 harg10 arg11 harg11) K := by
  simp only [cc1__lstm_body_eq_skeleton]; unfold cc1__lstm_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hfs0; obtain rfl := harg9.eq_unread hfs1
  sl_exec
  have hG : arg10.view.read (Elt F) (arg10.view.writes (Elt F) arg10.view.junk (body_first.sl.HS2_9 c arg1 harg1 arg2 harg2 x0 x1)) = gxF x0 x1 := by
    rw [View.read_writes_junk_eq_canon]
    unfold body_first.sl.HS2_9 body_first.sl.r_1 gxF
    simp only [View.readAt_eq_ld, harg1.read_unread, harg2.read_unread]
  have hW : View.readAt (Elt F) arg3.view rR.toLoadRect (harg3.unread x2) = View.ld x2 rR := by
    rw [View.readAt_eq_ld, harg3.read_unread]
  have hI : (k1_pay14 (body_first.sl.v73 c arg8), body_first.sl.v75 (F := F) c arg9) = initF k1_pay1 k1_pay2 := by
    unfold body_first.sl.v73 body_first.sl.v75 body_first.sl.HS0_1 body_first.sl.HS1_1; rw [View.readCov_eq_canon', View.readCov_eq_canon', View.canon_unit_zero (by funext a; fin_cases a <;> rfl), View.canon_unit_zero (by funext a; fin_cases a <;> rfl)]; rfl
  have hL : ∀ v7, st_k1_t1 (F := F) Variants.none c none i arg1 harg1 arg2 harg2 arg3 harg3 arg4 harg4 arg5 harg5 arg6 harg6 arg7 harg7 arg8 harg8 arg9 harg9 arg10 harg10 arg11 harg11 v7 (View.readAt (Elt F) arg3.view rR.toLoadRect (harg3.unread x2)) (arg10.view.writes (Elt F) arg10.view.junk (body_first.sl.HS2_9 c arg1 harg1 arg2 harg2 x0 x1)) (k1_pay14 (body_first.sl.v73 c arg8), body_first.sl.v75 (F := F) c arg9) k1_t1_loop.trips
      = (stF (View.ld x2 rR) (gxF x0 x1) (initF k1_pay1 k1_pay2) k1_t1_loop.trips, pcF (View.ld x2 rR) (gxF x0 x1) (initF k1_pay1 k1_pay2) k1_t1_loop.trips) := fun v7 => by
    rw [hW, hI, loop_state (hn := le_rfl), hG]
  have hHS : ∀ v7, arg11.view.read (Elt F) (arg11.view.writes (Elt F) fs3 (st_k1_t1 (F := F) Variants.none c none i arg1 harg1 arg2 harg2 arg3 harg3 arg4 harg4 arg5 harg5 arg6 harg6 arg7 harg7 arg8 harg8 arg9 harg9 arg10 harg10 arg11 harg11 v7 (View.readAt (Elt F) arg3.view rR.toLoadRect (harg3.unread x2)) (arg10.view.writes (Elt F) arg10.view.junk (body_first.sl.HS2_9 c arg1 harg1 arg2 harg2 x0 x1)) (k1_pay14 (body_first.sl.v73 c arg8), body_first.sl.v75 (F := F) c arg9) k1_t1_loop.trips).2) = hsF (View.ld x2 rR) (gxF x0 x1) (initF k1_pay1 k1_pay2) := fun v7 => by
    rw [hL]; exact View.read_writes_eq_canon _ _ _ (cover_pcF _ _ _)
  have hv0 : body_first.sl.v86 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH0 :=
    congrArg (fun X => View.ld X rH0) (hHS _)
  have hv1 : body_first.sl.v93 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH1 :=
    congrArg (fun X => View.ld X rH1) (hHS _)
  have hv2 : body_first.sl.v100 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH2 :=
    congrArg (fun X => View.ld X rH2) (hHS _)
  have hv3 : body_first.sl.v107 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH3 :=
    congrArg (fun X => View.ld X rH3) (hHS _)
  have hv4 : body_first.sl.v114 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH4 :=
    congrArg (fun X => View.ld X rH4) (hHS _)
  have hv5 : body_first.sl.v121 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH5 :=
    congrArg (fun X => View.ld X rH5) (hHS _)
  have hv6 : body_first.sl.v128 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH6 :=
    congrArg (fun X => View.ld X rH6) (hHS _)
  have hv7 : body_first.sl.v135 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH7 :=
    congrArg (fun X => View.ld X rH7) (hHS _)
  have hv8 : body_first.sl.v142 c i arg1 harg1 arg2 harg2 arg3 harg3 arg4 harg4 arg5 harg5 arg6 harg6 arg7 harg7 arg8 harg8 arg9 harg9 arg10 harg10 arg11 harg11 x0 x1 x2 fs3 = View.ld (hsF (View.ld x2 rR) (gxF x0 x1) (initF k1_pay1 k1_pay2)) rH8 :=
    congrArg (fun X => View.ld X rH8) (hHS _)
  have ha1 : ∀ r : Rect S16x128x128, View.readAt (Elt F) arg1.view r.toLoadRect (harg1.unread x0) = View.ld x0 r := fun r => by rw [View.readAt_eq_ld, harg1.read_unread]
  have ha4 : ∀ r : Rect S9x128x128, View.readAt (Elt F) arg4.view r.toLoadRect (harg4.unread x3) = View.ld x3 r := fun r => by rw [View.readAt_eq_ld, harg4.read_unread]
  have ha5 : ∀ r : Rect S1x128, View.readAt (Elt F) arg5.view r.toLoadRect (harg5.unread x4) = View.ld x4 r := fun r => by rw [View.readAt_eq_ld, harg5.read_unread]
  have ha6 : ∀ r : Rect S1x128, View.readAt (Elt F) arg6.view r.toLoadRect (harg6.unread x5) = View.ld x5 r := fun r => by rw [View.readAt_eq_ld, harg6.read_unread]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans ?_
    unfold body_first.sl.r body_first.sl.r_3 body_first.sl.r_4 body_first.sl.r_2 outF epiF
    rw [hv0, hv1, hv2, hv3, hv4, hv5, hv6, hv7, hv8]
    rw [ha1 rEv, ha4 rW0, ha4 rW1, ha4 rW2, ha4 rW3, ha4 rW4, ha4 rW5, ha4 rW6, ha4 rW7, ha4 rW8, ha5 rL, ha6 rL]
  isplitl [HS0]
  · iexists _; isplitr; swap; · iexact HS0
    ipureintro
    refine (View.read_writes_full _ _ _ _ _).trans ?_
    exact congrArg (fun s : St F × List (View.Piece (Elt F) S128x144x128 .f32) => k1_pay20 s.1.1) (hL _)
  isplitl [HS1]
  · iexists _; isplitr; swap; · iexact HS1
    ipureintro
    refine (View.read_writes_full _ _ _ _ _).trans ?_
    exact congrArg (fun s : St F × List (View.Piece (Elt F) S128x144x128 .f32) => k1_pay21 s.1.2) (hL _)
  isplitl [HS2]
  · iexists _, _; isplitr; swap; · iexact HS2
    ipureintro; rfl
  iexists _, _; isplitr; swap; · iexact HS3
  ipureintro; rfl

end Cert.KernelIdeal.Run
end
-- ==== Proof.Math.Scalars.lean ====
/-
The scalar facts over the extended reals that the equation of the two programs rests on: the
logistic function as a shifted `tanh`, the factor one half moved through sums, division by a square
root as a product with its reciprocal, and the exchange of two finite sums.
-/
module

public import Idealize.ShloMosaic.PureOps.Ideal
public import Idealize.ShloMosaic.PureOps.Ideal.Laws
public import Idealize.ShloMosaic.Lib.IdealHost
public import Mathlib.Analysis.Complex.Trigonometric

@[expose] public section

noncomputable section

namespace Cert.Lstm

open Idealize.ShloMosaic

/-- The pattern of one half denotes the real one half. -/
theorem ofBits_half : Ideal.ofBits .f32 0x3F000000#32 = ((1 / 2 : ℝ) : EReal) := by
  simp [Ideal.ofBits, Ideal.ieee]
  norm_num [← EReal.coe_mul]

/-- The pattern of one hundred and twenty-eight denotes that real. -/
theorem ofBits_width : Ideal.ofBits .f32 0x43000000#32 = ((128 : ℝ) : EReal) := by
  simp [Ideal.ofBits, Ideal.ieee]
  norm_num [← EReal.coe_mul]

/-- The small constant under the root: a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee]

/-- The logistic function is half the hyperbolic tangent of half its argument, plus a half, at every
    extended real. -/
theorem half_tanh_half (x : EReal) :
    ((1 / 2 : ℝ) : EReal) * Ideal.tanh (((1 / 2 : ℝ) : EReal) * x) + ((1 / 2 : ℝ) : EReal) = Ideal.logistic x := by
  have hp : (0 : ℝ) < 1 / 2 := by norm_num
  induction x using EReal.rec with
  | bot =>
    rw [EReal.coe_mul_bot_of_pos hp, Ideal.tanh_bot, Ideal.logistic_bot, ← EReal.coe_one, ← EReal.coe_neg, ← EReal.coe_mul,
      ← EReal.coe_add]
    norm_num
  | top =>
    rw [EReal.coe_mul_top_of_pos hp, Ideal.tanh_top, Ideal.logistic_top, ← EReal.coe_one, ← EReal.coe_mul,
      ← EReal.coe_add]
    norm_num
  | coe r =>
    rw [← EReal.coe_mul, Ideal.tanh_coe, Ideal.logistic_coe, ← EReal.coe_mul, ← EReal.coe_add]
    congr 1
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    have a0 : 0 < Real.exp (1 / 2 * r) := Real.exp_pos _
    have b0 : 0 < Real.exp (-(1 / 2 * r)) := Real.exp_pos _
    rw [Real.tanh_eq_sinh_div_cosh, Real.sinh_eq, Real.cosh_eq, h1]
    generalize Real.exp (1 / 2 * r) = a at *
    generalize Real.exp (-(1 / 2 * r)) = b at *
    have hb : b ≠ 0 := b0.ne'
    have ha : a = b⁻¹ := eq_inv_of_mul_eq_one_left h2
    subst ha
    have : (b⁻¹ + b) ≠ 0 := by positivity
    have : 1 + b * b ≠ 0 := by positivity
    field_simp
    ring

/-- A factor that is a nonnegative real moves through a finite sum of extended reals. -/
theorem mul_sum_of_nonneg {ι : Type} (s : Finset ι) (f : ι → EReal) {a : ℝ} (ha : 0 ≤ a) :
    ∑ i ∈ s, (a : EReal) * f i = (a : EReal) * ∑ i ∈ s, f i := by
  classical
  induction s using Finset.induction_on with
  | empty => simp
  | insert i s hi ih =>
    rw [Finset.sum_insert hi, Finset.sum_insert hi, ih,
      EReal.left_distrib_of_nonneg_of_ne_top (EReal.coe_nonneg.mpr ha) (EReal.coe_ne_top _)]

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Two chained products of finite numbers may be summed in either order, and a real factor put on
    the inner product comes out in front. -/
theorem assoc_of_finite {ι κ : Type} [Fintype ι] [Fintype κ] (e : ι → EReal) (w : κ → ι → EReal) (v : κ → EReal) (s : ℝ)
    (he : ∀ i, e i ≠ ⊤ ∧ e i ≠ ⊥) (hw : ∀ h i, w h i ≠ ⊤ ∧ w h i ≠ ⊥) (hv : ∀ h, v h ≠ ⊤ ∧ v h ≠ ⊥) :
    ∑ i, e i * ((∑ h, w h i * v h) * (s : EReal)) = (s : EReal) * ∑ h, (∑ i, e i * w h i) * v h := by
  lift e to ι → ℝ using he
  have hw' : ∃ w' : κ → ι → ℝ, w = fun h i => (w' h i : EReal) :=
    ⟨fun h i => (w h i).toReal, by funext h i; exact (EReal.coe_toReal (hw h i).1 (hw h i).2).symm⟩
  obtain ⟨w', rfl⟩ := hw'
  lift v to κ → ℝ using hv
  simp only [← EReal.coe_mul, ← coe_sum]
  congr 1
  rw [Finset.mul_sum]
  simp only [Finset.sum_mul, Finset.mul_sum]
  rw [Finset.sum_comm]
  refine Finset.sum_congr rfl fun h _ => Finset.sum_congr rfl fun i _ => ?_
  ring

/-- The square of an extended real is nonnegative. -/
theorem mul_self_nonneg' (x : EReal) : 0 ≤ x * x := by
  induction x using EReal.rec with
  | bot => simp
  | top => simp
  | coe r => rw [← EReal.coe_mul]; exact EReal.coe_nonneg.mpr (mul_self_nonneg r)

/-- At a positive extended real, dividing by the root is multiplying by the reciprocal root. -/
theorem div_sqrt (x y : EReal) (hy : 0 < y) : Ideal.div x (Ideal.sqrt y) = x * Ideal.rsqrt y := by
  induction y using EReal.rec with
  | bot => simp at hy
  | top => simp [Ideal.div]
  | coe r =>
    have hr : 0 < r := EReal.coe_pos.mp hy
    have hs : Real.sqrt r ≠ 0 := (Real.sqrt_pos.mpr hr).ne'
    rw [Ideal.sqrt_coe, Ideal.rsqrt_coe, if_neg hr.not_gt, if_neg hr.not_gt, if_neg hr.ne', Ideal.div,
      if_neg (by exact_mod_cast hs), EReal.coe_inv]

/-- The quotient of a nonnegative extended real by one hundred and twenty-eight is nonnegative. -/
theorem div_width_nonneg (x : EReal) (hx : 0 ≤ x) : 0 ≤ Ideal.div x (Ideal.ofBits .f32 0x43000000#32) := by
  rw [ofBits_width, Ideal.div, if_neg (by norm_num)]
  exact EReal.mul_nonneg hx (EReal.inv_nonneg_of_nonneg (by norm_num))

end Cert.Lstm

end
-- ==== Proof.Math.Row.lean ====
/-
The mathematics both programs carry out, over plain functions of extended reals: one row of the
recurrent cell, the row's states after any number of steps, the gate inputs, the projection and
the layer normalisation, and the value of the result at one event and one lane.
-/
module

public import proofs.«01_k».proof.Proof.Math.Scalars

@[expose] public section

noncomputable section

namespace Cert.Lstm

open Idealize.ShloMosaic

/-- A row's pair of states, the hidden one and the cell. -/
abbrev RowState := (Fin 128 → EReal) × (Fin 128 → EReal)

/-- The four gates of one row before their nonlinearities: the gate input plus the hidden state's product
    with the recurrent weights. -/
def pre (u : Fin 512 → Fin 128 → EReal) (x : Fin 512 → EReal) (h : Fin 128 → EReal) (j : Fin 512) : EReal :=
  x j + ∑ q : Fin 128, h q * u j q

/-- The next cell state from the four gates and the cell state. -/
def cell (z : Fin 512 → EReal) (c : Fin 128 → EReal) (q : Fin 128) : EReal :=
  Ideal.logistic (z ⟨128 + q.val, by omega⟩) * c q +
    Ideal.logistic (z ⟨q.val, by omega⟩) * Ideal.tanh (z ⟨256 + q.val, by omega⟩)

/-- The next hidden state from the four gates and the next cell state. -/
def hidden (z : Fin 512 → EReal) (c : Fin 128 → EReal) (q : Fin 128) : EReal :=
  Ideal.logistic (z ⟨384 + q.val, by omega⟩) * Ideal.tanh (c q)

/-- One step of a row. -/
def step (u : Fin 512 → Fin 128 → EReal) (x : Fin 512 → EReal) (s : RowState) : RowState :=
  (hidden (pre u x s.1) (cell (pre u x s.1) s.2), cell (pre u x s.1) s.2)

/-- The row's states after `t` steps from zero, the gate inputs of the steps being `x 0`, `x 1`, …. -/
def states (u : Fin 512 → Fin 128 → EReal) (x : ℕ → Fin 512 → EReal) : ℕ → RowState
  | 0 => (fun _ => 0, fun _ => 0)
  | t + 1 => step u (x t) (states u x t)

/-- The gate input of an event `e` at one kernel position: scattered by `w`, then multiplied by `v`. -/
def gateIn (e : Fin 128 → EReal) (w : Fin 128 → Fin 128 → EReal) (v : Fin 512 → Fin 128 → EReal) (j : Fin 512) : EReal :=
  ∑ h : Fin 128, (∑ i : Fin 128, e i * w h i) * v j h

/-- The sum over the nine positions of the hidden states' projections, plus the event. -/
def project (hid : Fin 9 → Fin 128 → EReal) (p : Fin 9 → Fin 128 → Fin 128 → EReal) (e : Fin 128 → EReal) (j : Fin 128) : EReal :=
  (∑ k : Fin 9, ∑ h : Fin 128, hid k h * p k j h) + e j

/-- The mean over the lanes. -/
def mean (y : Fin 128 → EReal) : EReal := Ideal.div (∑ j, y j) (Ideal.ofBits .f32 0x43000000#32)

/-- The variance over the lanes. -/
def var (y : Fin 128 → EReal) : EReal := mean fun j => (y j - mean y) * (y j - mean y)

/-- The layer normalisation, dividing by the root. -/
def norm (y g b : Fin 128 → EReal) (j : Fin 128) : EReal :=
  Ideal.div (y j - mean y) (Ideal.sqrt (var y + Ideal.ofBits .f32 0x3727C5AC#32)) * g j + b j

/-- The layer normalisation, multiplying by the reciprocal root. -/
def normR (y g b : Fin 128 → EReal) (j : Fin 128) : EReal :=
  (y j - mean y) * Ideal.rsqrt (var y + Ideal.ofBits .f32 0x3727C5AC#32) * g j + b j

/-- The two forms of the normalisation agree. -/
theorem norm_eq (y g b : Fin 128 → EReal) (j : Fin 128) : norm y g b j = normR y g b j := by
  obtain ⟨e, he, hb⟩ := ofBits_eps
  have hv : 0 ≤ var y := div_width_nonneg _ (Finset.sum_nonneg fun _ _ => mul_self_nonneg' _)
  rw [norm, normR, div_sqrt]
  rw [hb]
  exact lt_of_lt_of_le (EReal.coe_pos.mpr he) (le_add_of_nonneg_left hv)

/-- The factor put on gate `j`: one on the candidate's lanes, a half on the other three gates'. -/
def scale (j : Fin 512) : ℝ := if 256 ≤ j.val ∧ j.val < 384 then 1 else 1 / 2

theorem scale_nonneg (j : Fin 512) : 0 ≤ scale j := by unfold scale; split_ifs <;> norm_num

/-- The cell state computed from the tangents of the scaled gates. -/
def cellR (z : Fin 512 → EReal) (c : Fin 128 → EReal) (q : Fin 128) : EReal :=
  (((1 / 2 : ℝ) : EReal) * Ideal.tanh (z ⟨128 + q.val, by omega⟩) + ((1 / 2 : ℝ) : EReal)) * c q +
    (((1 / 2 : ℝ) : EReal) * Ideal.tanh (z ⟨q.val, by omega⟩) + ((1 / 2 : ℝ) : EReal)) * Ideal.tanh (z ⟨256 + q.val, by omega⟩)

/-- The hidden state computed from the tangents of the scaled gates. -/
def hiddenR (z : Fin 512 → EReal) (c : Fin 128 → EReal) (q : Fin 128) : EReal :=
  (((1 / 2 : ℝ) : EReal) * Ideal.tanh (z ⟨384 + q.val, by omega⟩) + ((1 / 2 : ℝ) : EReal)) * Ideal.tanh (c q)

/-- One step of a row on scaled gate inputs and scaled recurrent weights. -/
def stepR (u : Fin 512 → Fin 128 → EReal) (x : Fin 512 → EReal) (s : RowState) : RowState :=
  (hiddenR (pre u x s.1) (cellR (pre u x s.1) s.2), cellR (pre u x s.1) s.2)

/-- The row's states after `n` steps of `stepR` from the state `s`. -/
def runR (u : Fin 512 → Fin 128 → EReal) (x : ℕ → Fin 512 → EReal) (s : RowState) : ℕ → RowState
  | 0 => s
  | n + 1 => stepR u (x n) (runR u x s n)

/-- Scaling the gate inputs and the recurrent weights scales the gates. -/
theorem pre_scaled (u : Fin 512 → Fin 128 → EReal) (x : Fin 512 → EReal) (h : Fin 128 → EReal) (j : Fin 512) :
    pre (fun j q => u j q * (scale j : EReal)) (fun j => (scale j : EReal) * x j) h j = (scale j : EReal) * pre u x h j := by
  unfold pre
  rw [EReal.left_distrib_of_nonneg_of_ne_top (EReal.coe_nonneg.mpr (scale_nonneg j)) (EReal.coe_ne_top _),
    ← mul_sum_of_nonneg _ _ (scale_nonneg j)]
  congr 1
  exact Finset.sum_congr rfl fun q _ => by rw [← mul_assoc, mul_comm]

theorem cellR_scaled (z : Fin 512 → EReal) (c : Fin 128 → EReal) : cellR (fun j => (scale j : EReal) * z j) c = cell z c := by
  funext q
  have h1 : scale ⟨128 + q.val, by omega⟩ = 1 / 2 := if_neg (by simp only; omega)
  have h0 : scale ⟨q.val, by omega⟩ = 1 / 2 := if_neg (by simp only; omega)
  have h2 : scale ⟨256 + q.val, by omega⟩ = 1 := if_pos (by simp only; omega)
  simp only [cellR, cell, h0, h1, h2, half_tanh_half, EReal.coe_one, one_mul]

theorem hiddenR_scaled (z : Fin 512 → EReal) (c : Fin 128 → EReal) :
    hiddenR (fun j => (scale j : EReal) * z j) c = hidden z c := by
  funext q
  have h3 : scale ⟨384 + q.val, by omega⟩ = 1 / 2 := if_neg (by simp only; omega)
  simp only [hiddenR, hidden, h3, half_tanh_half]

/-- The step on scaled gates is the step. -/
theorem stepR_eq (u : Fin 512 → Fin 128 → EReal) (x : Fin 512 → EReal) (s : RowState) :
    stepR (fun j q => u j q * (scale j : EReal)) (fun j => (scale j : EReal) * x j) s = step u x s := by
  have hz : pre (fun j q => u j q * (scale j : EReal)) (fun j => (scale j : EReal) * x j) s.1 =
      fun j => (scale j : EReal) * pre u x s.1 j := funext fun j => pre_scaled u x s.1 j
  rw [stepR, hz, cellR_scaled, hiddenR_scaled, step]

/-- Steps on scaled gates continue the row's states: from the states after `b` steps, `n` more. -/
theorem runR_states (u : Fin 512 → Fin 128 → EReal) (x : ℕ → Fin 512 → EReal) (b n : ℕ) :
    runR (fun j q => u j q * (scale j : EReal)) (fun n j => (scale j : EReal) * x (b + n) j) (states u x b) n = states u x (b + n) := by
  induction n with
  | zero => rfl
  | succ n ih => rw [runR, ih, stepR_eq]; rfl

/-- The gate input taken through the folded weights: the event times the product of the two weight
    matrices, that product scaled. -/
def gateInR (e : Fin 128 → EReal) (w : Fin 128 → Fin 128 → EReal) (v : Fin 512 → Fin 128 → EReal) (j : Fin 512) : EReal :=
  ∑ i : Fin 128, e i * ((∑ h : Fin 128, w h i * v j h) * (scale j : EReal))

/-- On finite numbers the folded gate input is the gate input, scaled. -/
theorem gateInR_eq (e : Fin 128 → EReal) (w : Fin 128 → Fin 128 → EReal) (v : Fin 512 → Fin 128 → EReal)
    (he : ∀ i, e i ≠ ⊤ ∧ e i ≠ ⊥) (hw : ∀ h i, w h i ≠ ⊤ ∧ w h i ≠ ⊥) (hv : ∀ j h, v j h ≠ ⊤ ∧ v j h ≠ ⊥) (j : Fin 512) :
    gateInR e w v j = (scale j : EReal) * gateIn e w v j :=
  assoc_of_finite e w (v j) (scale j) he hw (hv j)

/-! ## The result at one event and one lane -/

variable (ev : Fin 16384 → Fin 128 → EReal) (wsc wga : Fin 9 → Fin 128 → Fin 128 → EReal)
  (wih whh : Fin 512 → Fin 128 → EReal) (gam bet : Fin 128 → EReal)

/-- The event of sequence `g` at position `t` (any `t`; positions past the sequence wrap). -/
def event (g : Fin 16) (t : ℕ) : Fin 16384 := ⟨g.val * 1024 + t % 1024, by omega⟩

/-- The states of the row of sequence `g` and position `k` after `t` steps. -/
def rowAt (g : Fin 16) (k : Fin 9) (t : ℕ) : RowState :=
  states whh (fun t => gateIn (ev (event g t)) (wsc k) wih) t

/-- The result at position `t` of sequence `g`, lane `j`. -/
def result (g : Fin 16) (t : ℕ) (j : Fin 128) : EReal :=
  norm (project (fun k => (rowAt ev wsc wih whh g k (t + 1)).1) wga (ev (event g t))) gam bet j

end Cert.Lstm

end
-- ==== Proof.KernelIdeal.Steps.lean ====
/- What one grid point of the second call computes, element by element over the extended reals: the projected inputs, one step
   of the recurrence, and the block of results from the block's hidden states. -/
module

public import proofs.«01_k».proof.Proof.KernelIdeal.Body
public import proofs.«01_k».proof.Proof.Math.Row
public import Idealize.ShloMosaic.Lib.Pointwise

@[expose] public section

noncomputable section

namespace Cert.KernelIdeal.Value

open Idealize.ShloMosaic Cert.KernelIdeal Cert.KernelIdeal.Gen Cert.KernelIdeal.Run Cert.Lstm

/-- Position `k`'s slab of the projected inputs at time `t`, sequence `g`, gate `j`: the event's product with
    column `512 k + j` of the projection. -/
def gxG (x0 : Vec Ideal S16x128x128 .f32) (x1 : Vec Ideal S128x4608 .bf16) : Vec Ideal S9x128x16x512 .f32 :=
  fun y => ∑ i : Fin 128, x0 (ix3 (y 2) (y 1) i) * x1 (ix2 i ⟨(y 0).val * 512 + (y 3).val, by
    have h0 : (y 0).val < 9 := (y 0).isLt
    have h3 : (y 3).val < 512 := (y 3).isLt
    omega⟩)

theorem slab0 (x0 : Vec Ideal S16x128x128 .f32) (x1 : Vec Ideal S128x4608 .bf16) (x : rG0.shape.Idx) :
    k1_pay5 (View.ld x0 rEv) (View.ld x1 rA0) x = gxG x0 x1 (rG0.emb x) := by
  rw [show rG0.emb x = rG0.toLoadRect.idx x from rfl]
  idx_vars x
  pointwise [k1_pay5, k1_pay4, k1_pay3, gxG]

theorem slab1 (x0 : Vec Ideal S16x128x128 .f32) (x1 : Vec Ideal S128x4608 .bf16) (x : rG1.shape.Idx) :
    k1_pay6 (View.ld x0 rEv) (View.ld x1 rA1) x = gxG x0 x1 (rG1.emb x) := by
  rw [show rG1.emb x = rG1.toLoadRect.idx x from rfl]
  idx_vars x
  pointwise [k1_pay6, k1_pay4, k1_pay3, gxG]

theorem slab2 (x0 : Vec Ideal S16x128x128 .f32) (x1 : Vec Ideal S128x4608 .bf16) (x : rG2.shape.Idx) :
    k1_pay7 (View.ld x0 rEv) (View.ld x1 rA2) x = gxG x0 x1 (rG2.emb x) := by
  rw [show rG2.emb x = rG2.toLoadRect.idx x from rfl]
  idx_vars x
  pointwise [k1_pay7, k1_pay4, k1_pay3, gxG]

theorem slab3 (x0 : Vec Ideal S16x128x128 .f32) (x1 : Vec Ideal S128x4608 .bf16) (x : rG3.shape.Idx) :
    k1_pay8 (k1_pay4 (View.ld x0 rEv)) (View.ld x1 rA3) x = gxG x0 x1 (rG3.emb x) := by
  rw [show rG3.emb x = rG3.toLoadRect.idx x from rfl]
  idx_vars x
  pointwise [k1_pay8, k1_pay4, k1_pay3, gxG]

theorem slab4 (x0 : Vec Ideal S16x128x128 .f32) (x1 : Vec Ideal S128x4608 .bf16) (x : rG4.shape.Idx) :
    k1_pay9 (k1_pay4 (View.ld x0 rEv)) (View.ld x1 rA4) x = gxG x0 x1 (rG4.emb x) := by
  rw [show rG4.emb x = rG4.toLoadRect.idx x from rfl]
  idx_vars x
  pointwise [k1_pay9, k1_pay4, k1_pay3, gxG]

theorem slab5 (x0 : Vec Ideal S16x128x128 .f32) (x1 : Vec Ideal S128x4608 .bf16) (x : rG5.shape.Idx) :
    k1_pay10 (k1_pay4 (View.ld x0 rEv)) (View.ld x1 rA5) x = gxG x0 x1 (rG5.emb x) := by
  rw [show rG5.emb x = rG5.toLoadRect.idx x from rfl]
  idx_vars x
  pointwise [k1_pay10, k1_pay4, k1_pay3, gxG]

theorem slab6 (x0 : Vec Ideal S16x128x128 .f32) (x1 : Vec Ideal S128x4608 .bf16) (x : rG6.shape.Idx) :
    k1_pay11 (k1_pay4 (View.ld x0 rEv)) (View.ld x1 rA6) x = gxG x0 x1 (rG6.emb x) := by
  rw [show rG6.emb x = rG6.toLoadRect.idx x from rfl]
  idx_vars x
  pointwise [k1_pay11, k1_pay4, k1_pay3, gxG]

theorem slab7 (x0 : Vec Ideal S16x128x128 .f32) (x1 : Vec Ideal S128x4608 .bf16) (x : rG7.shape.Idx) :
    k1_pay12 (k1_pay4 (View.ld x0 rEv)) (View.ld x1 rA7) x = gxG x0 x1 (rG7.emb x) := by
  rw [show rG7.emb x = rG7.toLoadRect.idx x from rfl]
  idx_vars x
  pointwise [k1_pay12, k1_pay4, k1_pay3, gxG]

theorem slab8 (x0 : Vec Ideal S16x128x128 .f32) (x1 : Vec Ideal S128x4608 .bf16) (x : rG8.shape.Idx) :
    k1_pay13 (k1_pay4 (View.ld x0 rEv)) (View.ld x1 rA8) x = gxG x0 x1 (rG8.emb x) := by
  rw [show rG8.emb x = rG8.toLoadRect.idx x from rfl]
  idx_vars x
  pointwise [k1_pay13, k1_pay4, k1_pay3, gxG]

/-- Every element of the projected inputs is in one of the nine slabs. -/
theorem gx_cover (y : S9x128x16x512.Idx) (k : ℕ) (hk : (y 0).val = k) (off : Fin 4 → ℕ) (ho : off = ![k, 0, 0, 0])
    (inb : ∀ a, off a + S1x128x16x512.size a ≤ S9x128x16x512.size a) :
    y ∈ (Rect.unit (s := S9x128x16x512) off S1x128x16x512.size inb).set := by
  subst ho
  refine Rect.mem_set_unit.mpr fun a => ?_
  fin_cases a
  · show k ≤ (y 0).val ∧ (y 0).val < k + 1
    omega
  · refine ⟨Nat.zero_le _, ?_⟩
    show (y 1).val < 0 + 128
    rw [Nat.zero_add]
    exact (y 1).isLt
  · refine ⟨Nat.zero_le _, ?_⟩
    show (y 2).val < 0 + 16
    rw [Nat.zero_add]
    exact (y 2).isLt
  · refine ⟨Nat.zero_le _, ?_⟩
    show (y 3).val < 0 + 512
    rw [Nat.zero_add]
    exact (y 3).isLt

/-- The projected inputs of a block, element by element. -/
theorem gx_value (x0 : Vec Ideal S16x128x128 .f32) (x1 : Vec Ideal S128x4608 .bf16) : gxF x0 x1 = gxG x0 x1 := by
  funext y
  refine View.canon_apply_of_pieces (gxG x0 x1) _ ?_ y ?_
  · simp only [List.forall_mem_cons, List.not_mem_nil, false_imp_iff, implies_true, and_true]
    exact ⟨slab8 x0 x1, slab7 x0 x1, slab6 x0 x1, slab5 x0 x1, slab4 x0 x1, slab3 x0 x1, slab2 x0 x1, slab1 x0 x1, slab0 x0 x1⟩
  · have h : (y 0).val < 9 := (y 0).isLt
    rcases (by omega : (y 0).val = 8 ∨ (y 0).val = 7 ∨ (y 0).val = 6 ∨ (y 0).val = 5 ∨ (y 0).val = 4 ∨ (y 0).val = 3 ∨ (y 0).val = 2 ∨
      (y 0).val = 1 ∨ (y 0).val = 0) with e | e | e | e | e | e | e | e | e
    · exact ⟨_, .head _, gx_cover y 8 e _ rfl inb_S9x128x16x512_S1x128x16x512_8_0_0_0⟩
    · exact ⟨_, .tail _ (.head _), gx_cover y 7 e _ rfl inb_S9x128x16x512_S1x128x16x512_7_0_0_0⟩
    · exact ⟨_, .tail _ (.tail _ (.head _)), gx_cover y 6 e _ rfl inb_S9x128x16x512_S1x128x16x512_6_0_0_0⟩
    · exact ⟨_, .tail _ (.tail _ (.tail _ (.head _))), gx_cover y 5 e _ rfl inb_S9x128x16x512_S1x128x16x512_5_0_0_0⟩
    · exact ⟨_, .tail _ (.tail _ (.tail _ (.tail _ (.head _)))), gx_cover y 4 e _ rfl inb_S9x128x16x512_S1x128x16x512_4_0_0_0⟩
    · exact ⟨_, .tail _ (.tail _ (.tail _ (.tail _ (.tail _ (.head _))))), gx_cover y 3 e _ rfl inb_S9x128x16x512_S1x128x16x512_3_0_0_0⟩
    · exact ⟨_, .tail _ (.tail _ (.tail _ (.tail _ (.tail _ (.tail _ (.head _)))))), gx_cover y 2 e _ rfl inb_S9x128x16x512_S1x128x16x512_2_0_0_0⟩
    · exact ⟨_, .tail _ (.tail _ (.tail _ (.tail _ (.tail _ (.tail _ (.tail _ (.head _))))))), gx_cover y 1 e _ rfl inb_S9x128x16x512_S1x128x16x512_1_0_0_0⟩
    · exact ⟨_, .tail _ (.tail _ (.tail _ (.tail _ (.tail _ (.tail _ (.tail _ (.tail _ (.head _)))))))), gx_cover y 0 e _ rfl inb_S9x128x16x512_S1x128x16x512_0_0_0_0⟩

/-! ## One step -/

/-- Row `r` of an array with 144 rows. -/
def rowOf (a : S144x128.Idx → EReal) (r : Fin 144) (q : Fin 128) : EReal := a (ix2 r q)

/-- The gate inputs of row `r` of one time's projected inputs. -/
def inOf (x : S9x1x16x512.Idx → EReal) (r : Fin 144) (j : Fin 512) : EReal := x (ix4 ⟨r.val / 16, by omega⟩ 0 ⟨r.val % 16, by omega⟩ j)

/-- The recurrent weights, gate first. -/
def weightOf (w : S128x512.Idx → EReal) (j : Fin 512) (q : Fin 128) : EReal := w (ix2 q j)

/-- The tangent of row `r`'s gates. -/
theorem gates_apply (w : Vec Ideal S128x512 .bf16) (h : FVec Ideal S144x128 .bf16) (x : Vec Ideal S9x1x16x512 .f32) (r : Fin 144) (j : Fin 512) :
    k1_pay15 w h x (ix2 r j) = Ideal.tanh (pre (weightOf w) (inOf x r) (rowOf h r) j) := by
  unfold pre weightOf inOf rowOf
  pointwise [k1_pay15]

/-- The cell state of row `r` after the step. -/
theorem cell_apply (w : Vec Ideal S128x512 .bf16) (h : FVec Ideal S144x128 .bf16) (c : Vec Ideal S144x128 .f32) (x : Vec Ideal S9x1x16x512 .f32) (r : Fin 144) :
    rowOf (k1_pay16 w h c x) r = cellR (pre (weightOf w) (inOf x r) (rowOf h r)) (rowOf c r) := by
  funext q
  unfold rowOf cellR
  pointwise [k1_pay16]
  simp only [gates_apply, ofBits_half]
  rfl

/-- The hidden state of row `r` after the step. -/
theorem hidden_apply (w : Vec Ideal S128x512 .bf16) (h : FVec Ideal S144x128 .bf16) (c : Vec Ideal S144x128 .f32) (x : Vec Ideal S9x1x16x512 .f32) (r : Fin 144) :
    rowOf (k1_pay17 w h c x) r = hiddenR (pre (weightOf w) (inOf x r) (rowOf h r)) (rowOf (k1_pay16 w h c x) r) := by
  funext q
  unfold rowOf hiddenR
  pointwise [k1_pay17]
  simp only [gates_apply, ofBits_half]
  rfl

/-- The rows of a pair of states. -/
def rowsOf (s : St Ideal) (r : Fin 144) : RowState := (rowOf s.1 r, rowOf s.2 r)

/-- One step of the loop is one step of every row. -/
theorem trip_apply (w : Vec Ideal S128x512 .bf16) (s : St Ideal) (x : Vec Ideal S9x1x16x512 .f32) (r : Fin 144) :
    rowsOf (k1_pay19 w s.1 s.2 x, k1_pay16 w s.1 s.2 x) r = stepR (weightOf w) (inOf x r) (rowsOf s r) := by
  have e : rowOf (k1_pay19 w s.1 s.2 x) r = rowOf (k1_pay17 w s.1 s.2 x) r := rfl
  unfold rowsOf stepR
  dsimp only
  rw [e, hidden_apply, cell_apply]

/-- What the step writes among the hidden states is the state's hidden row. -/
theorem store_apply (w : Vec Ideal S128x512 .bf16) (s : St Ideal) (x : Vec Ideal S9x1x16x512 .f32) (r : Fin 144) (q : Fin 128) :
    k1_pay18 w s.1 s.2 x (ix3 0 r q) = rowOf (k1_pay19 w s.1 s.2 x) r q := by
  unfold rowOf
  pointwise [k1_pay18, k1_pay19]

end Cert.KernelIdeal.Value

end
-- ==== Proof.KernelIdeal.Block.lean ====
/- What one grid point of the second call leaves, row by row: the states in scratch continue every row by the block's steps,
   and the block of results is the layer normalisation of the hidden states' projections. -/
module

public import proofs.«01_k».proof.Proof.KernelIdeal.Steps

@[expose] public section

noncomputable section

namespace Cert.KernelIdeal.Value

open Idealize.ShloMosaic Cert.KernelIdeal Cert.KernelIdeal.Gen Cert.KernelIdeal.Run Cert.Lstm

theorem trips_eq : k1_t1_loop.trips = 128 := by decide

/-! ## The recurrence of a block -/

/-- A row of the loop's states after `n` steps is the row's own recurrence, on the gate inputs `X` the row reads. -/
theorem state_rows (w : Vec Ideal S128x512 .bf16) (gx : Vec Ideal S9x128x16x512 .f32) (init : St Ideal) (r : Fin 144) (X : ℕ → Fin 512 → EReal)
    (hX : ∀ k : Fin k1_t1_loop.trips, inOf (View.ld gx (rT k)) r = X k.val) (n : ℕ) (hn : n ≤ k1_t1_loop.trips) :
    rowsOf (stF w gx init n) r = runR (weightOf w) X (rowsOf init r) n := by
  induction n with
  | zero => rfl
  | succ n ih =>
    rw [stF_succ w gx init ⟨n, hn⟩, runR, ← ih (by omega), ← hX ⟨n, hn⟩]
    exact trip_apply w _ _ r

/-- The hidden state at time `t` of the block is the hidden part of the state after step `t`. -/
theorem hidden_rows (w : Vec Ideal S128x512 .bf16) (gx : Vec Ideal S9x128x16x512 .f32) (init : St Ideal) (t : Fin 128) (r : Fin 144) (q : Fin 128) :
    hsF w gx init (ix3 t r q) = (rowsOf (stF w gx init (t.val + 1)) r).1 q := by
  let G : Vec Ideal S128x144x128 .f32 := fun y => (rowsOf (stF w gx init ((y 0).val + 1)) (y 1)).1 (y 2)
  have hG : ∀ n, n ≤ k1_t1_loop.trips → ∀ p ∈ pcF w gx init n, ∀ x : p.1.shape.Idx, p.2 x = G (p.1.emb x) := by
    intro n
    induction n with
    | zero => intro _ p hp; exact absurd hp List.not_mem_nil
    | succ n ih =>
      intro hn p hp x
      rw [pcF_succ w gx init ⟨n, hn⟩] at hp
      rcases List.mem_cons.mp hp with rfl | hp
      · have e : (rO ⟨n, hn⟩).emb x = ix3 ⟨n, by rw [← trips_eq]; exact hn⟩ (x 1) (x 2) := by
          funext a
          apply Fin.ext
          have h := Gen.k1_off2_eq ⟨n, hn⟩
          show k1_off2 ⟨n, hn⟩ a + 1 * (x a).val = _
          rw [h]
          fin_cases a
          · show n + 1 * (x 0).val = n
            have h0 : (x 0).val < 1 := (x 0).isLt
            omega
          · show 0 + 1 * (x 1).val = (x 1).val
            omega
          · show 0 + 1 * (x 2).val = (x 2).val
            omega
        have ex : x = ix3 (0 : Fin 1) (x 1) (x 2) := by
          funext a
          fin_cases a
          · exact Subsingleton.elim (α := Fin 1) _ _
          · rfl
          · rfl
        rw [e]
        refine (congrArg (k1_pay18 w (stF w gx init n).1 (stF w gx init n).2 (View.ld gx (rT ⟨n, hn⟩))) ex).trans ?_
        refine (store_apply w (stF w gx init n) (View.ld gx (rT ⟨n, hn⟩)) (x 1) (x 2)).trans ?_
        show _ = (rowsOf (stF w gx init (n + 1)) (x 1)).1 (x 2)
        rw [stF_succ w gx init ⟨n, hn⟩]
        rfl
      · exact ih (by omega) p hp x
  exact View.canon_apply_of_pieces G _ (hG _ le_rfl) (ix3 t r q) (cover_pcF w gx init _)

/-! ## The block of results -/

/-- The projections of four positions, summed. -/
theorem four_apply (h0 h1 h2 h3 : Vec Ideal S128x16x128 .f32) (w0 w1 w2 w3 : Vec Ideal S1x128x128 .bf16) (r : Fin 2048) (j : Fin 128) :
    k1_pay22 h0 w0 h1 w1 h2 w2 h3 w3 (ix2 r j) =
      (∑ q : Fin 128, h0 (ix3 ⟨r.val / 16, by omega⟩ ⟨r.val % 16, by omega⟩ q) * w0 (ix3 0 q j)) +
      (∑ q : Fin 128, h1 (ix3 ⟨r.val / 16, by omega⟩ ⟨r.val % 16, by omega⟩ q) * w1 (ix3 0 q j)) +
      (∑ q : Fin 128, h2 (ix3 ⟨r.val / 16, by omega⟩ ⟨r.val % 16, by omega⟩ q) * w2 (ix3 0 q j)) +
      (∑ q : Fin 128, h3 (ix3 ⟨r.val / 16, by omega⟩ ⟨r.val % 16, by omega⟩ q) * w3 (ix3 0 q j)) := by
  pointwise [k1_pay22]

/-- The projections of four more positions, added. -/
theorem eight_apply (acc : FVec Ideal S2048x128 .f32) (h0 h1 h2 h3 : Vec Ideal S128x16x128 .f32) (w0 w1 w2 w3 : Vec Ideal S1x128x128 .bf16)
    (r : Fin 2048) (j : Fin 128) :
    k1_pay23 acc h0 w0 h1 w1 h2 w2 h3 w3 (ix2 r j) =
      acc (ix2 r j) +
      (∑ q : Fin 128, h0 (ix3 ⟨r.val / 16, by omega⟩ ⟨r.val % 16, by omega⟩ q) * w0 (ix3 0 q j)) +
      (∑ q : Fin 128, h1 (ix3 ⟨r.val / 16, by omega⟩ ⟨r.val % 16, by omega⟩ q) * w1 (ix3 0 q j)) +
      (∑ q : Fin 128, h2 (ix3 ⟨r.val / 16, by omega⟩ ⟨r.val % 16, by omega⟩ q) * w2 (ix3 0 q j)) +
      (∑ q : Fin 128, h3 (ix3 ⟨r.val / 16, by omega⟩ ⟨r.val % 16, by omega⟩ q) * w3 (ix3 0 q j)) := by
  pointwise [k1_pay23]

/-- The last position's projection and the event added, and the layer normalisation. -/
theorem norm_apply (ev : FVec Ideal S128x16x128 .f32) (acc : FVec Ideal S2048x128 .f32) (hb : Vec Ideal S128x16x128 .f32) (w : Vec Ideal S1x128x128 .bf16)
    (g b : Vec Ideal S1x128 .f32) (s : Fin 16) (t : Fin 128) (j : Fin 128) :
    k1_pay25 ev acc (k1_pay24 hb) w g b (ix3 s t j) =
      normR (fun j => acc (ix2 ⟨t.val * 16 + s.val, by omega⟩ j) + (∑ q : Fin 128, hb (ix3 t s q) * w (ix3 0 q j)) + ev (ix3 t s j))
        (fun j => g (ix2 0 j)) (fun j => b (ix2 0 j)) j := by
  unfold normR var mean
  pointwise [k1_pay25, k1_pay24]

/-- The block of results: at sequence `s`, time `t` and lane `j` the normalisation of the row's projections. -/
theorem block_apply (x0 : Vec Ideal S16x128x128 .f32) (x3 : Vec Ideal S9x128x128 .bf16) (x4 x5 : Vec Ideal S1x128 .f32) (hs : Vec Ideal S128x144x128 .f32)
    (s : Fin 16) (t : Fin 128) (j : Fin 128) :
    epiF x0 x3 x4 x5 hs (ix3 s t j) =
      normR (project (fun k q => hs (ix3 t ⟨k.val * 16 + s.val, by omega⟩ q)) (fun k j q => x3 (ix3 k q j)) (fun j => x0 (ix3 s t j)))
        (fun j => x4 (ix2 0 j)) (fun j => x5 (ix2 0 j)) j := by
  unfold epiF
  rw [norm_apply]
  congr 1
  · funext j
    rw [eight_apply, four_apply]
    unfold project
    rw [Fin.sum_univ_castSucc (n := 8), Fin.sum_univ_eight]
    pointwise [k1_pay3]
    have hq : (t.val * 16 + s.val) / 16 = t.val := by omega
    have hr : (t.val * 16 + s.val) % 16 = s.val := by omega
    have h0 : (⟨s.val, by omega⟩ : Fin 144) = ⟨(0 : Fin 9).val * 16 + s.val, by have := s.isLt; simp; omega⟩ := Fin.ext (by simp)
    simp only [hq, hr]
    have e0 : (∑ q, hs (ix3 t ⟨s.val, by omega⟩ q) * x3 (ix3 0 q j)) =
        ∑ q, hs (ix3 t ⟨(0 : Fin 9).val * 16 + s.val, by have := s.isLt; simp; omega⟩ q) * x3 (ix3 0 q j) := by rw [h0]
    exact congrArg (fun z : EReal => z + _ + _ + _ + _ + _ + _ + _ + _ + _) e0
  · pointwise
  · pointwise

end Cert.KernelIdeal.Value

end
-- ==== Proof.KernelIdeal.Region0.lean ====
/- The first call: what its body computes, its triple, and its body obligation, at any contents found on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at the call's one point, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's buffer holds its block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The second input's buffer holds its block whenever the body runs. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev q0_0 : Rect S9x128x128 := Rect.unit (s := S9x128x128) ![0, 0, 0] S1x128x128.size inb_S9x128x128_S1x128x128_0_0_0
abbrev q0_1 : Rect S512x128 := Rect.unit (s := S512x128) ![0, 0] S512x128.size inb_S512x128_S512x128_0_0
abbrev q0_2 : Rect S128x4608 := Rect.unit (s := S128x4608) ![0, 0] S128x512.size inb_S128x4608_S128x512_0_0
abbrev q0_3 : Rect S9x128x128 := Rect.unit (s := S9x128x128) ![1, 0, 0] S1x128x128.size inb_S9x128x128_S1x128x128_1_0_0
abbrev q0_4 : Rect S128x4608 := Rect.unit (s := S128x4608) ![0, 512] S128x512.size inb_S128x4608_S128x512_0_512
abbrev q0_5 : Rect S9x128x128 := Rect.unit (s := S9x128x128) ![2, 0, 0] S1x128x128.size inb_S9x128x128_S1x128x128_2_0_0
abbrev q0_6 : Rect S128x4608 := Rect.unit (s := S128x4608) ![0, 1024] S128x512.size inb_S128x4608_S128x512_0_1024
abbrev q0_7 : Rect S9x128x128 := Rect.unit (s := S9x128x128) ![3, 0, 0] S1x128x128.size inb_S9x128x128_S1x128x128_3_0_0
abbrev q0_8 : Rect S128x4608 := Rect.unit (s := S128x4608) ![0, 1536] S128x512.size inb_S128x4608_S128x512_0_1536
abbrev q0_9 : Rect S9x128x128 := Rect.unit (s := S9x128x128) ![4, 0, 0] S1x128x128.size inb_S9x128x128_S1x128x128_4_0_0
abbrev q0_10 : Rect S128x4608 := Rect.unit (s := S128x4608) ![0, 2048] S128x512.size inb_S128x4608_S128x512_0_2048
abbrev q0_11 : Rect S9x128x128 := Rect.unit (s := S9x128x128) ![5, 0, 0] S1x128x128.size inb_S9x128x128_S1x128x128_5_0_0
abbrev q0_12 : Rect S128x4608 := Rect.unit (s := S128x4608) ![0, 2560] S128x512.size inb_S128x4608_S128x512_0_2560
abbrev q0_13 : Rect S9x128x128 := Rect.unit (s := S9x128x128) ![6, 0, 0] S1x128x128.size inb_S9x128x128_S1x128x128_6_0_0
abbrev q0_14 : Rect S128x4608 := Rect.unit (s := S128x4608) ![0, 3072] S128x512.size inb_S128x4608_S128x512_0_3072
abbrev q0_15 : Rect S9x128x128 := Rect.unit (s := S9x128x128) ![7, 0, 0] S1x128x128.size inb_S9x128x128_S1x128x128_7_0_0
abbrev q0_16 : Rect S128x4608 := Rect.unit (s := S128x4608) ![0, 3584] S128x512.size inb_S128x4608_S128x512_0_3584
abbrev q0_17 : Rect S9x128x128 := Rect.unit (s := S9x128x128) ![8, 0, 0] S1x128x128.size inb_S9x128x128_S1x128x128_8_0_0
abbrev q0_18 : Rect S128x4608 := Rect.unit (s := S128x4608) ![0, 4096] S128x512.size inb_S128x4608_S128x512_0_4096

/-- The projected weights the first call's body leaves: nine column slabs, one per position, last written first. -/
def out0_2 (x0 : Vec F S9x128x128 .f32) (x1 : Vec F S512x128 .f32) : Vec F S128x4608 .f32 :=
  View.canon [⟨q0_18, k0_pay1 (k0_pay10 (View.ld x0 q0_17)) (View.ld x1 q0_1)⟩,
    ⟨q0_16, k0_pay9 (View.ld x0 q0_15) (View.ld x1 q0_1)⟩,
    ⟨q0_14, k0_pay8 (View.ld x0 q0_13) (View.ld x1 q0_1)⟩,
    ⟨q0_12, k0_pay7 (View.ld x0 q0_11) (View.ld x1 q0_1)⟩,
    ⟨q0_10, k0_pay6 (View.ld x0 q0_9) (View.ld x1 q0_1)⟩,
    ⟨q0_8, k0_pay5 (View.ld x0 q0_7) (View.ld x1 q0_1)⟩,
    ⟨q0_6, k0_pay4 (View.ld x0 q0_5) (View.ld x1 q0_1)⟩,
    ⟨q0_4, k0_pay3 (View.ld x0 q0_3) (View.ld x1 q0_1)⟩,
    ⟨q0_2, k0_pay2 (View.ld x0 q0_0) (View.ld x1 q0_1)⟩]

/-- The nine slabs cover the result. -/
theorem cover0_2 (p0 : Vec F S128x512 .f32) (p1 : Vec F S128x512 .f32) (p2 : Vec F S128x512 .f32) (p3 : Vec F S128x512 .f32) (p4 : Vec F S128x512 .f32) (p5 : Vec F S128x512 .f32) (p6 : Vec F S128x512 .f32) (p7 : Vec F S128x512 .f32) (p8 : Vec F S128x512 .f32) (y : S128x4608.Idx) :
    ∃ pc ∈ ([⟨q0_18, p0⟩, ⟨q0_16, p1⟩, ⟨q0_14, p2⟩, ⟨q0_12, p3⟩, ⟨q0_10, p4⟩, ⟨q0_8, p5⟩, ⟨q0_6, p6⟩, ⟨q0_4, p7⟩, ⟨q0_2, p8⟩] : List (View.Piece (Elt F) S128x4608 .f32)), y ∈ pc.1.set :=
  View.cover_of_tiled [⟨q0_18, p0⟩, ⟨q0_16, p1⟩, ⟨q0_14, p2⟩, ⟨q0_12, p3⟩, ⟨q0_10, p4⟩, ⟨q0_8, p5⟩, ⟨q0_6, p6⟩, ⟨q0_4, p7⟩, ⟨q0_2, p8⟩] S128x512.size (by rfl) y

/-- The first call's body on its buffers: it leaves the inputs as they were and the result at `out0_2`. -/
theorem sound_kernel0 (c : Dev nD) (E : Set ℕ) (arg0 : Memref sig .tc .vmem S9x128x128 .f32) (harg0 : arg0.IsWhole) (arg1 : Memref sig .tc .vmem S512x128 .f32) (harg1 : arg1.IsWhole) (arg2 : Memref sig .tc .vmem S128x4608 .f32) (harg2 : arg2.IsWhole)
    (x0 : Vec F S9x128x128 .f32) (x1 : Vec F S512x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__prep_body arg0 harg0 arg1 harg1 arg2 harg2) K := by
  simp only [cc0__prep_body_eq_skeleton]; unfold cc0__prep_body_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _)

/-- What the first call holds at each point: its arrays as found, its result after the body. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays are the contents found on entry. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body, called so, returns so. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The table's row for this call is the body at the point's buffers. -/
theorem defs₀_row0 (t : Fin cfg0.N) :
    defs₀ (F := F) .tc cfg0.body (cfg0.bodyArgs t (cfg0.slots t)) = bodyAt0 t := by
  unfold defs₀; rw [Defs.onTc_tc]

/-- The first call's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run
end
-- ==== Proof.KernelIdeal.Region1.lean ====
/- The second call: the states it carries from point to point, and its body obligation, at any contents found on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Body

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's buffer holds its block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input 1's buffer holds its block whenever the body runs. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input 2's buffer holds its block whenever the body runs. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input 3's buffer holds its block whenever the body runs. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input 4's buffer holds its block whenever the body runs. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input 5's buffer holds its block whenever the body runs. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S16x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4608 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S9x128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x128x128 .f32 := win1_6.stage (cfg1.slots t 6)
abbrev hs1_6 (t : Fin cfg1.N) : (ms1_6 t).IsWhole := hstage1_6 ((cfg1.slots t 6).cast nbuf1_6)
/-- The carried hidden state, the carried cell state, the projected inputs and the hidden states of a block. -/
abbrev scM1_0 : Memref sig .tc .vmem S144x128 .f32 := Memref.whole cc1_scratch0
abbrev scM1_1 : Memref sig .tc .vmem S144x128 .f32 := Memref.whole cc1_scratch1
abbrev scM1_2 : Memref sig .tc .vmem S9x128x16x512 .f32 := Memref.whole cc1_scratch2
abbrev scM1_3 : Memref sig .tc .vmem S128x144x128 .f32 := Memref.whole cc1_scratch3

/-- What is held outside the windows, with the scratch buffers by name. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-- The hidden and the cell state before point `n`: zero before the first, then what each block leaves. -/
def stAt (c : Dev nD) : ℕ → Vec F S144x128 .f32 × Vec F S144x128 .f32
  | 0 => (k1_pay1, k1_pay2)
  | n + 1 =>
    if h : n < cfg1.N then
      (hOutF (iblk1 V c 0 ⟨n, h⟩) (iblk1 V c 1 ⟨n, h⟩) (iblk1 V c 2 ⟨n, h⟩) (stAt c n).1 (stAt c n).2,
        cOutF (iblk1 V c 0 ⟨n, h⟩) (iblk1 V c 1 ⟨n, h⟩) (iblk1 V c 2 ⟨n, h⟩) (stAt c n).1 (stAt c n).2)
    else stAt c n

theorem stAt_succ (c : Dev nD) (t : Fin cfg1.N) :
    stAt V c (t.val + 1) = (hOutF (iblk1 V c 0 t) (iblk1 V c 1 t) (iblk1 V c 2 t) (stAt V c t.val).1 (stAt V c t.val).2,
        cOutF (iblk1 V c 0 t) (iblk1 V c 1 t) (iblk1 V c 2 t) (stAt V c t.val).1 (stAt V c t.val).2) := by
  rw [stAt]; exact dif_pos t.isLt

/-- The block of results a point leaves. -/
def outsAt1 (c : Dev nD) (t : Fin cfg1.N) : Vec F S16x128x128 .f32 :=
  outF (iblk1 V c 0 t) (iblk1 V c 1 t) (iblk1 V c 2 t) (iblk1 V c 3 t) (iblk1 V c 4 t) (iblk1 V c 5 t) (stAt V c t.val).1 (stAt V c t.val).2

/-- What is held between the points besides the windows: the first call's buffers and the last two scratch buffers at
    anything, the generator register, and the two carried scratch buffers, at the states once a point has run. -/
def Φ1 (c : Dev nD) (p : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, ⌜p ≠ 0 → d = (stAt V c p).1⌝ ∗ owns (c : Thread nD τ) scM1_0 fullShare d) ∗ (∃ d, ⌜p ≠ 0 → d = (stAt V c p).2⌝ ∗ owns (c : Thread nD τ) scM1_1 fullShare d) ∗ (∃ d, owns (c : Thread nD τ) scM1_2 fullShare d) ∗ (∃ d, owns (c : Thread nD τ) scM1_3 fullShare d)) ∗ (∃ r, prngReg c r))

/-- Before the first point nothing is asked of the scratch buffers. -/
theorem Φ1_zero (c : Dev nD) : (Pipeline.ΦA spec1 c : sProp 𝕄) ⊢ Φ1 V c 0 := by
  rw [PhiA1_eq]; unfold Φ1
  iintro ⟨⟨HR0, HR1, HR2, ⟨%d0, HS0⟩, ⟨%d1, HS1⟩, HS2, HS3⟩, Hg⟩
  isplitr [Hg]
  · isplitl [HR0]; · iexact HR0
    isplitl [HR1]; · iexact HR1
    isplitl [HR2]; · iexact HR2
    isplitl [HS0]
    · iexists d0; isplitr; · ipureintro; exact fun h => absurd rfl h
      iexact HS0
    isplitl [HS1]
    · iexists d1; isplitr; · ipureintro; exact fun h => absurd rfl h
      iexact HS1
    isplitl [HS2]; · iexact HS2
    iexact HS3
  iexact Hg

/-- At any point what is held may be forgotten. -/
theorem Φ1_forget (c : Dev nD) (p : ℕ) : Φ1 V c p ⊢ (Pipeline.ΦA spec1 c : sProp 𝕄) := by
  rw [PhiA1_eq]; unfold Φ1
  iintro ⟨⟨HR0, HR1, HR2, ⟨%d0, -, HS0⟩, ⟨%d1, -, HS1⟩, HS2, HS3⟩, Hg⟩
  isplitr [Hg]
  · isplitl [HR0]; · iexact HR0
    isplitl [HR1]; · iexact HR1
    isplitl [HR2]; · iexact HR2
    isplitl [HS0]; · iexists d0; iexact HS0
    isplitl [HS1]; · iexists d1; iexact HS1
    isplitl [HS2]; · iexact HS2
    iexact HS3
  iexact Hg

/-- What the second call holds at each point: its arrays as found, its results after each body, the states in scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t)
  Φ p := Φ1 V c p.val
  q _ := fullShare
  owed _ := 0

/-- The arrays are the contents found on entry. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-- The body resets its state at the first point only. -/
theorem first_iff : ∀ t : Fin grid1.N, (Scalar.cmpi .ne (Scalar.extui (Scalar.cmpi .eq (BitVec.ofNat 32 (grid1.coords t 0).val) 0#32)) 0#32 : BitVec 1) = 1#1 ↔ t.val = 0 := by
  decide +kernel

/-- The body, called so, returns so: at the first point from zero states, later from the states found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6]
  rw [show (dat1 V c).Φ t.castSucc = Φ1 V c t.val from rfl, show (dat1 V c).Φ t.succ = Φ1 V c (t.val + 1) from rfl]
  rw [Φ1.eq_def V c t.val]
  unfold outsAt1
  iintro ⟨⟨⟨HR0, HR1, HR2, ⟨%s0, %hs0, HS0⟩, ⟨%s1, %hs1, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  by_cases ht : t.val = 0
  · have e : stAt V c t.val = (k1_pay1, k1_pay2) := by rw [ht]; rfl
    have e1 := congrArg Prod.fst e
    have e2 := congrArg Prod.snd e
    dsimp only at e1 e2
    rw [e1, e2]
    have es := stAt_succ V c t
    rw [e1, e2] at es
    iapply (body_first c (grid1.coords t) ((first_iff t).mpr ht) _ _ _ _ _ _ _ _ _ _ _ _ _ _ _ _ _ _ _ _ _ _ (iblk1 V c 0 t) (iblk1 V c 1 t) (iblk1 V c 2 t) (iblk1 V c 3 t) (iblk1 V c 4 t) (iblk1 V c 5 t) s0 s1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HR0 HR1 HR2 HS0 HS1 HS2 HS3 Hg]
    · unfold Φ1
      isplitl [HR0 HR1 HR2 HS0 HS1 HS2 HS3]
      · isplitl [HR0]; · iexact HR0
        isplitl [HR1]; · iexact HR1
        isplitl [HR2]; · iexact HR2
        isplitl [HS0]
        · iexists _; isplitr; swap; · iexact HS0
          ipureintro; intro _; exact (congrArg Prod.fst (es)).symm
        isplitl [HS1]
        · iexists _; isplitr; swap; · iexact HS1
          ipureintro; intro _; exact (congrArg Prod.snd (es)).symm
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain rfl := hs0 ht
    obtain rfl := hs1 ht
    iapply (body_later c (grid1.coords t) (fun h => ht ((first_iff t).mp h)) _ _ _ _ _ _ _ _ _ _ _ _ _ _ _ _ _ _ _ _ _ _ (iblk1 V c 0 t) (iblk1 V c 1 t) (iblk1 V c 2 t) (iblk1 V c 3 t) (iblk1 V c 4 t) (iblk1 V c 5 t) (stAt V c t.val).1 (stAt V c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HR0 HR1 HR2 HS0 HS1 HS2 HS3 Hg]
    · unfold Φ1
      isplitl [HR0 HR1 HR2 HS0 HS1 HS2 HS3]
      · isplitl [HR0]; · iexact HR0
        isplitl [HR1]; · iexact HR1
        isplitl [HR2]; · iexact HR2
        isplitl [HS0]
        · iexists _; isplitr; swap; · iexact HS0
          ipureintro; intro _; exact (congrArg Prod.fst (stAt_succ V c t)).symm
        isplitl [HS1]
        · iexists _; isplitr; swap; · iexact HS1
          ipureintro; intro _; exact (congrArg Prod.snd (stAt_succ V c t)).symm
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The table's row for this call is the body at the point's buffers. -/
theorem defs₀_row1 (t : Fin cfg1.N) :
    defs₀ (F := F) .tc cfg1.body (cfg1.bodyArgs t (cfg1.slots t)) = bodyAt1 t := by
  unfold defs₀; rw [Defs.onTc_tc]

/-- The second call's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run
end
-- ==== Proof.KernelIdeal.Whole.lean ====
/- The whole program: the buffer contents at each boundary between host stretches and calls, and the run. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Region0
public import proofs.«01_k».proof.Proof.KernelIdeal.Region1

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v2, main_c, main_v3, main_v4, main_c_0, main_v5, main_v6, main_v7, main_cst, main_cst_1]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call0_v0, main_call0_v1, main_v8]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_v9, main_v10, main_v11, main_v12, main_v13, main_v14, main_v15, main_v16, main_v17, main_v18, main_v19, main_v20, main_v21, main_v22, main_v23, main_v24, main_v25, main_v26, main_v27]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v29]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch; `W1` … `W7` are their contents after each stretch of host operations and each call. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no result of the first call keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev W4 : Dev nD → Valuation τ sig (Elt F) := fun c => StableHlo.after hostOps1_1 (W3 m ρ c)
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
abbrev W5 : Dev nD → Valuation τ sig (Elt F) := fun c => StableHlo.after hostOps1_2 (W4 m ρ c)
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A buffer that is no result of the second call keeps its contents across it. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)
theorem W7_main_arg11 (c : Dev nD) : W7 m ρ c (Proc.devRef .tc main_arg11) = m ((c : Thread nD τ).loc main_arg11) :=
  W7_args m ρ c main_arg11 (by decide)
theorem W7_main_arg12 (c : Dev nD) : W7 m ρ c (Proc.devRef .tc main_arg12) = m ((c : Thread nD τ).loc main_arg12) :=
  W7_args m ρ c main_arg12 (by decide)

abbrev adm : (p : Fin 2) → (pcfgs (F := F) p).Adm := fun p => (cfgs p).toPCfg_adm
/-- Both calls' data, each at the contents found on entry. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides along: the generator register, and that nothing is owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer of the host program is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- The first call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V5 m ρ) c 0 from rfl]
    have h := Φ1_zero (V5 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = Φ1 (V5 m ρ) c cfg1.N from rfl]
    have h := Φ1_forget (V5 m ρ) c cfg1.N
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory every run of the program terminates without a fault, and every buffer of the host program ends at `W7`. -/
theorem run_all : θ_run defs (onTc (τ := τ) (main (F := F))) ⟨m, fun _ => 0, ρ⟩ (fun r => (∀ c : Dev nD, ∀ b ∈ Pipeline.ucRefs τ sig,
      r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- Every run terminates without a fault, the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c),
       (h.1 c _ (mem_uc main_arg6 (by decide))).trans (W7_main_arg6 m ρ c),
       (h.1 c _ (mem_uc main_arg7 (by decide))).trans (W7_main_arg7 m ρ c),
       (h.1 c _ (mem_uc main_arg8 (by decide))).trans (W7_main_arg8 m ρ c),
       (h.1 c _ (mem_uc main_arg9 (by decide))).trans (W7_main_arg9 m ρ c),
       (h.1 c _ (mem_uc main_arg10 (by decide))).trans (W7_main_arg10 m ρ c),
       (h.1 c _ (mem_uc main_arg11 (by decide))).trans (W7_main_arg11 m ρ c),
       (h.1 c _ (mem_uc main_arg12 (by decide))).trans (W7_main_arg12 m ρ c)⟩, h.2⟩) (run_all m ρ)

/-- Every run ends with the result array at `W7`. -/
theorem result : θ_run defs (onTc (τ := τ) (main (F := F))) ⟨m, fun _ => 0, ρ⟩ (fun r => ∀ c : Dev nD,
      r.2.mem ((c.tc : Thread nD τ).loc main_v29) = W7 m ρ c (Proc.devRef .tc main_v29)) :=
  (θ_run defs _ _).mono (fun r h c => h.1 c _ (mem_uc main_v29 (by decide))) (run_all m ρ)

end Cert.KernelIdeal.Run
end
-- ==== Proof.KernelIdeal.Blocks.lean ====
/- What the second call's input blocks hold, and its result array from the blocks its points leave. -/
module

public import proofs.«01_k».proof.Proof.KernelIdeal.Whole
public import Idealize.ShloMosaic.Lib.Pointwise

@[expose] public section

noncomputable section

namespace Cert.KernelIdeal.Value

open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

/-- The grid's one coordinate at a point is the point. -/
theorem coord_val (t : Fin cfg1.N) : (grid1.coords t 0).val = t.val := by
  have h : t.val < 8 := t.isLt
  rw [Pipeline.Grid.coords_val (G := grid1) t 0 (S := 1) (B := 8) (by decide) (by decide)]
  omega

/-- Its word holds it. -/
theorem coord_word (t : Fin cfg1.N) : (BitVec.ofNat 32 (grid1.coords t 0).val).toNat = t.val := by
  have h : t.val < 8 := t.isLt
  rw [coord_val, BitVec.toNat_ofNat]
  omega

/-- The events' block index along time. -/
theorem index0 (t : Fin cfg1.N) : win1_0.index t 1 = t.val := coord_word t

/-- The result's block index along time. -/
theorem index6 (t : Fin cfg1.N) : win1_6.index t 1 = t.val := coord_word t

/-- The events' block at point `t`: times `128 t` to `128 t + 127`. -/
theorem events_block (c : Dev nD) (t : Fin cfg1.N) (s : Fin 16) (n i : Fin 128) :
    iblk1 V c 0 t (ix3 s n i) = V c main_v15 (ix3 s ⟨t.val * 128 + n.val, by have h : t.val < 8 := t.isLt; have := n.isLt; omega⟩ i) := by
  show V c main_v15 ((win1_0.rect t).emb (ix3 s n i)) = _
  congr 1
  funext a
  apply Fin.ext
  match a with
  | ⟨0, _⟩ => exact Pipeline.Window.rect_emb_val_of_index_zero win1_0 t 0 rfl _
  | ⟨1, _⟩ =>
    refine (Pipeline.Window.rect_emb_val win1_0 t _ 1).trans ?_
    rw [index0]
    rfl
  | ⟨2, _⟩ => exact Pipeline.Window.rect_emb_val_of_index_zero win1_0 t 2 rfl _

/-- The projected input weights: every point's block is the whole array. -/
theorem whole_block1 (c : Dev nD) (t : Fin cfg1.N) : iblk1 V c 1 t = V c main_v25 := by
  have hz : (fun a => win1_1.index t a * main_v25.ty.shape.size a) = fun _ => 0 :=
    funext fun a => by fin_cases a <;> exact Nat.zero_mul _
  exact Memref.read_access_unit_zero (Elt Ideal) main_v25 hz (fun a => by rw [congrFun hz a]; simp) (V c main_v25)

/-- The recurrent weights: every point's block is the whole array. -/
theorem whole_block2 (c : Dev nD) (t : Fin cfg1.N) : iblk1 V c 2 t = V c main_v24 := by
  have hz : (fun a => win1_2.index t a * main_v24.ty.shape.size a) = fun _ => 0 :=
    funext fun a => by fin_cases a <;> exact Nat.zero_mul _
  exact Memref.read_access_unit_zero (Elt Ideal) main_v24 hz (fun a => by rw [congrFun hz a]; simp) (V c main_v24)

/-- The gather weights: every point's block is the whole array. -/
theorem whole_block3 (c : Dev nD) (t : Fin cfg1.N) : iblk1 V c 3 t = V c main_v18 := by
  have hz : (fun a => win1_3.index t a * main_v18.ty.shape.size a) = fun _ => 0 :=
    funext fun a => by fin_cases a <;> exact Nat.zero_mul _
  exact Memref.read_access_unit_zero (Elt Ideal) main_v18 hz (fun a => by rw [congrFun hz a]; simp) (V c main_v18)

/-- The scale row: every point's block is the whole array. -/
theorem whole_block4 (c : Dev nD) (t : Fin cfg1.N) : iblk1 V c 4 t = V c main_v26 := by
  have hz : (fun a => win1_4.index t a * main_v26.ty.shape.size a) = fun _ => 0 :=
    funext fun a => by fin_cases a <;> exact Nat.zero_mul _
  exact Memref.read_access_unit_zero (Elt Ideal) main_v26 hz (fun a => by rw [congrFun hz a]; simp) (V c main_v26)

/-- The offset row: every point's block is the whole array. -/
theorem whole_block5 (c : Dev nD) (t : Fin cfg1.N) : iblk1 V c 5 t = V c main_v27 := by
  have hz : (fun a => win1_5.index t a * main_v27.ty.shape.size a) = fun _ => 0 :=
    funext fun a => by fin_cases a <;> exact Nat.zero_mul _
  exact Memref.read_access_unit_zero (Elt Ideal) main_v27 hz (fun a => by rw [congrFun hz a]; simp) (V c main_v27)

/-- The second call's result array, when every point leaves block `t` of the array `G`. -/
theorem arr1_eq (c : Dev nD) (G : S16x1024x128.Idx → EReal)
    (hG : ∀ (t : Fin cfg1.N) (s : Fin 16) (n i : Fin 128), outsAt1 V c t (ix3 s n i) =
      G (ix3 s ⟨t.val * 128 + n.val, by have h : t.val < 8 := t.isLt; have := n.isLt; omega⟩ i)) :
    (dat1 V c).arrAt 6 cfg1.N = G :=
  (dat1 V c).arrAt_eq_of_cover 6 G (fun t hf => by
    show (cfg1.win 6).cut (grid1.coords t) ((dat1 V c).after 6 t) = _
    rw [after1_6]
    funext y
    show outsAt1 V c t y = G ((win1_6.rect t).emb y)
    have hy : y = ix3 (n0 := 16) (n1 := 128) (n2 := 128) (y 0) (y 1) (y 2) := by
      funext a; match a with | ⟨0, _⟩ => rfl | ⟨1, _⟩ => rfl | ⟨2, _⟩ => rfl
    rw [hy]
    refine (hG t (y 0) (y 1) (y 2)).trans ?_
    congr 1
    funext a
    apply Fin.ext
    match a with
    | ⟨0, _⟩ => exact (Pipeline.Window.rect_emb_val_of_index_zero win1_6 t 0 rfl _).symm
    | ⟨1, _⟩ =>
      refine Eq.trans ?_ (Pipeline.Window.rect_emb_val win1_6 t _ 1).symm
      rw [index6]
      rfl
    | ⟨2, _⟩ => exact (Pipeline.Window.rect_emb_val_of_index_zero win1_6 t 2 rfl _).symm)
  fun i => by
    have h0 : (i 0 : Nat) < 16 := (i 0).isLt
    have h1 : (i 1 : Nat) < 1024 := (i 1).isLt
    have h2 : (i 2 : Nat) < 128 := (i 2).isLt
    obtain ⟨t, ht⟩ : ∃ t : Fin grid1.N, t.val = (i 1 : Nat) / 128 := ⟨⟨(i 1 : Nat) / 128, by rw [N_1]; omega⟩, rfl⟩
    refine ⟨t, flush1_6 t, ?_⟩
    show i ∈ ((View.whole main_v28).slice (win1_6.rect t)).set
    rw [View.set_slice_whole, Rect.mem_set_unit]
    intro a
    match a with
    | ⟨0, _⟩ => exact ⟨Nat.zero_le _, by show (i 0 : Nat) < 0 * 16 + 16; omega⟩
    | ⟨1, _⟩ =>
      show win1_6.index _ 1 * 128 ≤ (i 1 : Nat) ∧ (i 1 : Nat) < win1_6.index _ 1 * 128 + 128
      rw [index6]
      rw [ht]
      omega
    | ⟨2, _⟩ => exact ⟨Nat.zero_le _, by show (i 2 : Nat) < 0 * 128 + 128; omega⟩

end Cert.KernelIdeal.Value

end
-- ==== Proof.KernelIdeal.Chain.lean ====
/- The second call's grid points in order: the states in scratch before point `t` are every row's states after `128 t` steps, and
   the block a point leaves is the results at its 128 times. -/
module

public import proofs.«01_k».proof.Proof.KernelIdeal.Block
public import proofs.«01_k».proof.Proof.KernelIdeal.Blocks

@[expose] public section

noncomputable section

namespace Cert.KernelIdeal.Value

open Idealize.ShloMosaic Idealize.ShloMosaic.TcCoe Cert.KernelIdeal Cert.KernelIdeal.Gen Cert.KernelIdeal.Run Cert.Lstm

variable (ev : Fin 16384 → Fin 128 → EReal) (wsc wga : Fin 9 → Fin 128 → Fin 128 → EReal)
  (wih whh : Fin 512 → Fin 128 → EReal) (gam bet : Fin 128 → EReal)

/-- The row of position `k` and sequence `g`. -/
def rowIx (k : Fin 9) (g : Fin 16) : Fin 144 := ⟨k.val * 16 + g.val, by omega⟩

/-- Where a step's row lies among the projected inputs. -/
theorem step_idx (k : Fin 9) (g : Fin 16) (j : Fin 512) (n : Fin k1_t1_loop.trips) (hn : n.val < 128) :
    (rT n).toLoadRect.idx (ix4 (⟨(rowIx k g).val / 16, by omega⟩ : Fin 9) (0 : Fin 1) (⟨(rowIx k g).val % 16, by omega⟩ : Fin 16) j) =
      ix4 k (⟨n.val, hn⟩ : Fin 128) g j := by
  have hk : (k.val * 16 + g.val) / 16 = k.val := by omega
  have hg : (k.val * 16 + g.val) % 16 = g.val := by omega
  funext a
  apply Fin.ext
  have h := Gen.k1_off1_eq n
  show k1_off1 n a + 1 * _ = _
  rw [h]
  fin_cases a
  · show 0 + 1 * ((k.val * 16 + g.val) / 16) = k.val
    omega
  · show n.val + 1 * 0 = n.val
    omega
  · show 0 + 1 * ((k.val * 16 + g.val) % 16) = g.val
    omega
  · show 0 + 1 * j.val = j.val
    omega

/-- The projected inputs a step reads, as the row's gate inputs, scaled: for events `x0` from time `b` on and folded, scaled
    weights `x1`. -/
theorem gate_row (x0 : Vec Ideal S16x128x128 .f32) (x1 : Vec Ideal S128x4608 .bf16) (b : ℕ)
    (hev : ∀ n i, ev n i ≠ ⊤ ∧ ev n i ≠ ⊥) (hwsc : ∀ k h i, wsc k h i ≠ ⊤ ∧ wsc k h i ≠ ⊥) (hwih : ∀ j h, wih j h ≠ ⊤ ∧ wih j h ≠ ⊥)
    (hx0 : ∀ (s : Fin 16) (n i : Fin 128), x0 (ix3 s n i) = ev (event s (b + n.val)) i)
    (hx1 : ∀ (i : Fin 128) (k : Fin 9) (j : Fin 512), x1 (ix2 i ⟨k.val * 512 + j.val, by omega⟩) =
      (∑ h : Fin 128, wsc k h i * wih j h) * (scale j : EReal))
    (k : Fin 9) (g : Fin 16) (n : Fin k1_t1_loop.trips) :
    inOf (View.ld (gxF x0 x1) (rT n)) (rowIx k g) = fun j => (scale j : EReal) * gateIn (ev (event g (b + n.val))) (wsc k) wih j := by
  funext j
  have hn : n.val < 128 := lt_of_lt_of_eq n.isLt trips_eq
  have hk : (k.val * 16 + g.val) / 16 = k.val := by omega
  have hg : (k.val * 16 + g.val) % 16 = g.val := by omega
  have hv : inOf (View.ld (gxG x0 x1) (rT n)) (rowIx k g) j = gxG x0 x1 (ix4 k (⟨n.val, hn⟩ : Fin 128) g j) :=
    congrArg (gxG x0 x1) (step_idx k g j n hn)
  rw [gx_value, hv, ← gateInR_eq _ _ _ (hev _) (hwsc k) hwih]
  show ∑ i : Fin 128, x0 (ix3 g ⟨n.val, hn⟩ i) * x1 (ix2 i ⟨k.val * 512 + j.val, _⟩) = _
  unfold gateInR
  refine Finset.sum_congr rfl fun i _ => ?_
  rw [hx0, hx1]

/-- The states a block starts from. -/
theorem rows_init (h c : Vec Ideal S144x128 .f32) (r : Fin 144) : rowsOf (initF h c) r = (rowOf h r, rowOf c r) := by
  unfold rowsOf initF rowOf
  dsimp only
  congr 1 <;> funext q
  · pointwise [k1_pay14]
  · pointwise

/-- The hidden state a block leaves. -/
theorem row_hOut (s : FVec Ideal S144x128 .bf16) (r : Fin 144) : rowOf (k1_pay20 s) r = rowOf s r := by
  funext q
  unfold rowOf
  pointwise [k1_pay20]

/-- The cell state a block leaves. -/
theorem row_cOut (s : Vec Ideal S144x128 .f32) (r : Fin 144) : rowOf (k1_pay21 s) r = rowOf s r := by
  funext q
  unfold rowOf
  pointwise [k1_pay21]

/-- The zero states. -/
theorem row_zero (r : Fin 144) : (rowOf (k1_pay1 (F := Ideal)) r, rowOf (k1_pay2 (F := Ideal)) r) = ((fun _ => 0, fun _ => 0) : RowState) := by
  unfold rowOf
  congr 1 <;> funext q
  · pointwise [k1_pay1]
  · pointwise [k1_pay2]

/-- The recurrent weights a block reads. -/
theorem weight_row (x2 : Vec Ideal S128x512 .bf16) (hx2 : ∀ (q : Fin 128) (j : Fin 512), x2 (ix2 q j) = whh j q * (scale j : EReal)) :
    weightOf (View.ld x2 rR) = fun j q => whh j q * (scale j : EReal) := by
  funext j q
  rw [← hx2]
  unfold weightOf
  pointwise

section block

variable (x0 : Vec Ideal S16x128x128 .f32) (x1 : Vec Ideal S128x4608 .bf16) (x2 : Vec Ideal S128x512 .bf16)
  (x3 : Vec Ideal S9x128x128 .bf16) (x4 x5 : Vec Ideal S1x128 .f32) (h c : Vec Ideal S144x128 .f32) (b : ℕ)
  (hev : ∀ n i, ev n i ≠ ⊤ ∧ ev n i ≠ ⊥) (hwsc : ∀ k h i, wsc k h i ≠ ⊤ ∧ wsc k h i ≠ ⊥) (hwih : ∀ j h, wih j h ≠ ⊤ ∧ wih j h ≠ ⊥)
  (hx0 : ∀ (s : Fin 16) (n i : Fin 128), x0 (ix3 s n i) = ev (event s (b + n.val)) i)
  (hx1 : ∀ (i : Fin 128) (k : Fin 9) (j : Fin 512), x1 (ix2 i ⟨k.val * 512 + j.val, by omega⟩) =
    (∑ h : Fin 128, wsc k h i * wih j h) * (scale j : EReal))
  (hx2 : ∀ (q : Fin 128) (j : Fin 512), x2 (ix2 q j) = whh j q * (scale j : EReal))

include hev hwsc hwih hx0 hx1 hx2

/-- From the rows' states after `b` steps, `n` steps of the block. -/
theorem rows_after (k : Fin 9) (g : Fin 16)
    (hs : (rowOf h (rowIx k g), rowOf c (rowIx k g)) = rowAt ev wsc wih whh g k b) (n : ℕ) (hn : n ≤ 128) :
    rowsOf (stF (View.ld x2 rR) (gxF x0 x1) (initF h c) n) (rowIx k g) = rowAt ev wsc wih whh g k (b + n) := by
  rw [state_rows (View.ld x2 rR) (gxF x0 x1) (initF h c) (rowIx k g)
    (fun n j => (scale j : EReal) * gateIn (ev (event g (b + n))) (wsc k) wih j)
    (gate_row ev wsc wih x0 x1 b hev hwsc hwih hx0 hx1 k g) n (by rw [trips_eq]; exact hn), rows_init, hs, weight_row whh x2 hx2]
  exact runR_states whh (fun t => gateIn (ev (event g t)) (wsc k) wih) b n

/-- The states the block leaves in scratch. -/
theorem scratch_after (k : Fin 9) (g : Fin 16)
    (hs : (rowOf h (rowIx k g), rowOf c (rowIx k g)) = rowAt ev wsc wih whh g k b) :
    (rowOf (hOutF x0 x1 x2 h c) (rowIx k g), rowOf (cOutF x0 x1 x2 h c) (rowIx k g)) = rowAt ev wsc wih whh g k (b + 128) := by
  unfold hOutF cOutF
  rw [row_hOut, row_cOut, trips_eq]
  exact rows_after ev wsc wih whh x0 x1 x2 h c b hev hwsc hwih hx0 hx1 hx2 k g hs 128 le_rfl

/-- The block of results. -/
theorem results_block (hx3 : ∀ (k : Fin 9) (q j : Fin 128), x3 (ix3 k q j) = wga k j q) (hx4 : ∀ j : Fin 128, x4 (ix2 0 j) = gam j)
    (hx5 : ∀ j : Fin 128, x5 (ix2 0 j) = bet j)
    (hs : ∀ (k : Fin 9) (g : Fin 16), (rowOf h (rowIx k g), rowOf c (rowIx k g)) = rowAt ev wsc wih whh g k b)
    (g : Fin 16) (n j : Fin 128) :
    outF x0 x1 x2 x3 x4 x5 h c (ix3 g n j) = Lstm.result ev wsc wga wih whh gam bet g (b + n.val) j := by
  unfold outF
  rw [block_apply, Lstm.result, norm_eq]
  have e1 : (fun (k : Fin 9) (q : Fin 128) => hsF (View.ld x2 rR) (gxF x0 x1) (initF h c) (ix3 n ⟨k.val * 16 + g.val, by omega⟩ q)) =
      fun k => (rowAt ev wsc wih whh g k (b + n.val + 1)).1 := by
    funext k q
    rw [Nat.add_assoc, ← rows_after ev wsc wih whh x0 x1 x2 h c b hev hwsc hwih hx0 hx1 hx2 k g (hs k g) (n.val + 1) n.isLt]
    exact hidden_rows _ _ _ n (rowIx k g) q
  have e2 : (fun (k : Fin 9) (j q : Fin 128) => x3 (ix3 k q j)) = wga := by
    funext k j q
    exact hx3 k q j
  have e3 : (fun j : Fin 128 => x0 (ix3 g n j)) = ev (event g (b + n.val)) := funext fun j => hx0 g n j
  have e4 : (fun j : Fin 128 => x4 (ix2 0 j)) = gam := funext hx4
  have e5 : (fun j : Fin 128 => x5 (ix2 0 j)) = bet := funext hx5
  rw [e1, e2, e3, e4, e5]

end block

section array

variable (V : (c : Dev nD) → (b : Ref sig .tc) → Buf (Elt Ideal) ((c : Thread nD τ).loc b)) (c : Dev nD)
  (hev : ∀ n i, ev n i ≠ ⊤ ∧ ev n i ≠ ⊥) (hwsc : ∀ k h i, wsc k h i ≠ ⊤ ∧ wsc k h i ≠ ⊥) (hwih : ∀ j h, wih j h ≠ ⊤ ∧ wih j h ≠ ⊥)
  (hV0 : ∀ (s : Fin 16) (n : Fin 1024) (i : Fin 128), V c main_v15 (ix3 s n i) = ev (event s n.val) i)
  (hV1 : ∀ (i : Fin 128) (k : Fin 9) (j : Fin 512), V c main_v25 (ix2 i ⟨k.val * 512 + j.val, by omega⟩) =
    (∑ h : Fin 128, wsc k h i * wih j h) * (scale j : EReal))
  (hV2 : ∀ (q : Fin 128) (j : Fin 512), V c main_v24 (ix2 q j) = whh j q * (scale j : EReal))

include hev hwsc hwih hV0 hV1 hV2

/-- The events a point reads. -/
theorem point_events (t : Fin cfg1.N) (s : Fin 16) (n i : Fin 128) : iblk1 V c 0 t (ix3 s n i) = ev (event s (t.val * 128 + n.val)) i := by
  rw [events_block, hV0]

/-- The states before point `t`. -/
theorem states_before (k : Fin 9) (g : Fin 16) (t : ℕ) (ht : t ≤ 8) :
    (rowOf (stAt V c t).1 (rowIx k g), rowOf (stAt V c t).2 (rowIx k g)) = rowAt ev wsc wih whh g k (t * 128) := by
  induction t with
  | zero => exact row_zero _
  | succ t ih =>
    obtain ⟨p, hp⟩ : ∃ p : Fin cfg1.N, p.val = t := ⟨⟨t, by rw [show cfg1.N = 8 from N_1]; omega⟩, rfl⟩
    have h := stAt_succ V c p
    rw [hp] at h
    have key := scratch_after ev wsc wih whh (iblk1 V c 0 p) (iblk1 V c 1 p) (iblk1 V c 2 p) (stAt V c t).1 (stAt V c t).2 (t * 128) hev hwsc hwih
      (fun s n i => by rw [← hp]; exact point_events ev wsc wih whh V c hev hwsc hwih hV0 hV1 hV2 p s n i)
      (by rw [whole_block1]; exact hV1) (by rw [whole_block2]; exact hV2) k g (ih (by omega))
    rw [h, Nat.succ_mul]
    exact key

/-- The second call's result array. -/
theorem array_value (hV3 : ∀ (k : Fin 9) (q j : Fin 128), V c main_v18 (ix3 k q j) = wga k j q)
    (hV4 : ∀ j : Fin 128, V c main_v26 (ix2 0 j) = gam j) (hV5 : ∀ j : Fin 128, V c main_v27 (ix2 0 j) = bet j) :
    (dat1 V c).arrAt 6 cfg1.N = fun y : S16x1024x128.Idx => Lstm.result ev wsc wga wih whh gam bet (y 0) (y 1).val (y 2) := by
  refine arr1_eq V c _ fun t s n i => ?_
  have ht : t.val < 8 := t.isLt
  refine results_block ev wsc wga wih whh gam bet _ _ _ _ _ _ _ _ (t.val * 128) hev hwsc hwih ?_ ?_ ?_ ?_ ?_ ?_ ?_ s n i
  · exact fun s n i => point_events ev wsc wih whh V c hev hwsc hwih hV0 hV1 hV2 t s n i
  · rw [whole_block1]; exact hV1
  · rw [whole_block2]; exact hV2
  · rw [whole_block3]; exact hV3
  · rw [whole_block4]; exact hV4
  · rw [whole_block5]; exact hV5
  · exact fun k g => states_before ev wsc wih whh V c hev hwsc hwih hV0 hV1 hV2 k g t.val (by omega)

end array

end Cert.KernelIdeal.Value

end
-- ==== Proof.KernelIdeal.Folded.lean ====
/- What the first call's result array holds: at row `i` and column `512 k + j` the product of position `k`'s scatter weights with
   the input weights, contracted over the hidden lanes. -/
module

public import proofs.«01_k».proof.Proof.KernelIdeal.Whole
public import proofs.«01_k».proof.Proof.Math.Row
public import Idealize.ShloMosaic.Lib.Pointwise

@[expose] public section

noncomputable section

namespace Cert.KernelIdeal.Value

open Idealize.ShloMosaic Idealize.ShloMosaic.TcCoe Cert.KernelIdeal Cert.KernelIdeal.Gen Cert.KernelIdeal.Run Cert.Lstm

theorem sum_at (x0 : Vec Ideal S9x128x128 .f32) (x1 : Vec Ideal S512x128 .f32) (i : Fin 128) {k k' : Fin 9} {j j' : Fin 512}
    (hk : k = k') (hj : j = j') :
    ∑ h : Fin 128, x0 (ix3 k h i) * x1 (ix2 j h) = ∑ h : Fin 128, x0 (ix3 k' h i) * x1 (ix2 j' h) := by
  rw [hk, hj]

/-- The product of position `y₁ / 512`'s scatter weights with the input weights, contracted over the hidden lanes. -/
def foldG (x0 : Vec Ideal S9x128x128 .f32) (x1 : Vec Ideal S512x128 .f32) : Vec Ideal S128x4608 .f32 :=
  fun y => ∑ h : Fin 128, x0 (ix3 ⟨(y 1).val / 512, by
      have h1 : (y 1).val < 4608 := (y 1).isLt
      omega⟩ h (y 0)) * x1 (ix2 ⟨(y 1).val % 512, Nat.mod_lt _ (by decide)⟩ h)

theorem fold0 (x0 : Vec Ideal S9x128x128 .f32) (x1 : Vec Ideal S512x128 .f32) (x : q0_2.shape.Idx) :
    k0_pay2 (View.ld x0 q0_0) (View.ld x1 q0_1) x = foldG x0 x1 (q0_2.emb x) := by
  rw [show q0_2.emb x = q0_2.toLoadRect.idx x from rfl]
  idx_vars x
  pointwise [k0_pay2, foldG]
  exact sum_at _ _ _ (Fin.ext (by simp; omega)) (Fin.ext (by simp; omega))

theorem fold1 (x0 : Vec Ideal S9x128x128 .f32) (x1 : Vec Ideal S512x128 .f32) (x : q0_4.shape.Idx) :
    k0_pay3 (View.ld x0 q0_3) (View.ld x1 q0_1) x = foldG x0 x1 (q0_4.emb x) := by
  rw [show q0_4.emb x = q0_4.toLoadRect.idx x from rfl]
  idx_vars x
  pointwise [k0_pay3, foldG]
  exact sum_at _ _ _ (Fin.ext (by simp)) (Fin.ext (by simp; omega))

theorem fold2 (x0 : Vec Ideal S9x128x128 .f32) (x1 : Vec Ideal S512x128 .f32) (x : q0_6.shape.Idx) :
    k0_pay4 (View.ld x0 q0_5) (View.ld x1 q0_1) x = foldG x0 x1 (q0_6.emb x) := by
  rw [show q0_6.emb x = q0_6.toLoadRect.idx x from rfl]
  idx_vars x
  pointwise [k0_pay4, foldG]
  exact sum_at _ _ _ (Fin.ext (by simp; omega)) (Fin.ext (by simp; omega))

theorem fold3 (x0 : Vec Ideal S9x128x128 .f32) (x1 : Vec Ideal S512x128 .f32) (x : q0_8.shape.Idx) :
    k0_pay5 (View.ld x0 q0_7) (View.ld x1 q0_1) x = foldG x0 x1 (q0_8.emb x) := by
  rw [show q0_8.emb x = q0_8.toLoadRect.idx x from rfl]
  idx_vars x
  pointwise [k0_pay5, foldG]
  exact sum_at _ _ _ (Fin.ext (by simp; omega)) (Fin.ext (by simp; omega))

theorem fold4 (x0 : Vec Ideal S9x128x128 .f32) (x1 : Vec Ideal S512x128 .f32) (x : q0_10.shape.Idx) :
    k0_pay6 (View.ld x0 q0_9) (View.ld x1 q0_1) x = foldG x0 x1 (q0_10.emb x) := by
  rw [show q0_10.emb x = q0_10.toLoadRect.idx x from rfl]
  idx_vars x
  pointwise [k0_pay6, foldG]
  exact sum_at _ _ _ (Fin.ext (by simp; omega)) (Fin.ext (by simp; omega))

theorem fold5 (x0 : Vec Ideal S9x128x128 .f32) (x1 : Vec Ideal S512x128 .f32) (x : q0_12.shape.Idx) :
    k0_pay7 (View.ld x0 q0_11) (View.ld x1 q0_1) x = foldG x0 x1 (q0_12.emb x) := by
  rw [show q0_12.emb x = q0_12.toLoadRect.idx x from rfl]
  idx_vars x
  pointwise [k0_pay7, foldG]
  exact sum_at _ _ _ (Fin.ext (by simp; omega)) (Fin.ext (by simp; omega))

theorem fold6 (x0 : Vec Ideal S9x128x128 .f32) (x1 : Vec Ideal S512x128 .f32) (x : q0_14.shape.Idx) :
    k0_pay8 (View.ld x0 q0_13) (View.ld x1 q0_1) x = foldG x0 x1 (q0_14.emb x) := by
  rw [show q0_14.emb x = q0_14.toLoadRect.idx x from rfl]
  idx_vars x
  pointwise [k0_pay8, foldG]
  exact sum_at _ _ _ (Fin.ext (by simp; omega)) (Fin.ext (by simp; omega))

theorem fold7 (x0 : Vec Ideal S9x128x128 .f32) (x1 : Vec Ideal S512x128 .f32) (x : q0_16.shape.Idx) :
    k0_pay9 (View.ld x0 q0_15) (View.ld x1 q0_1) x = foldG x0 x1 (q0_16.emb x) := by
  rw [show q0_16.emb x = q0_16.toLoadRect.idx x from rfl]
  idx_vars x
  pointwise [k0_pay9, foldG]
  exact sum_at _ _ _ (Fin.ext (by simp; omega)) (Fin.ext (by simp; omega))

theorem fold8 (x0 : Vec Ideal S9x128x128 .f32) (x1 : Vec Ideal S512x128 .f32) (x : q0_18.shape.Idx) :
    k0_pay1 (k0_pay10 (View.ld x0 q0_17)) (View.ld x1 q0_1) x = foldG x0 x1 (q0_18.emb x) := by
  rw [show q0_18.emb x = q0_18.toLoadRect.idx x from rfl]
  idx_vars x
  pointwise [k0_pay1, k0_pay10, foldG]
  exact sum_at _ _ _ (Fin.ext (by simp; omega)) (Fin.ext (by simp; omega))

/-- The array the first body leaves, element by element. -/
theorem out0_value (x0 : Vec Ideal S9x128x128 .f32) (x1 : Vec Ideal S512x128 .f32) : out0_2 x0 x1 = foldG x0 x1 := by
  funext y
  refine View.canon_apply_of_pieces (foldG x0 x1) _ ?_ y (cover0_2 _ _ _ _ _ _ _ _ _ y)
  simp only [List.forall_mem_cons, List.not_mem_nil, false_imp_iff, implies_true, and_true]
  exact ⟨fold8 x0 x1, fold7 x0 x1, fold6 x0 x1, fold5 x0 x1, fold4 x0 x1, fold3 x0 x1, fold2 x0 x1, fold1 x0 x1, fold0 x0 x1⟩

/-! ## From the block to the array: the one grid point's blocks are the whole arrays -/

variable (V : (c : Dev nD) → (b : Ref sig .tc) → Buf (Elt Ideal) ((c : Thread nD τ).loc b))

/-- The scatter weights' block is the array of them. -/
theorem iblk0_0_eq (c : Dev nD) (t : Fin cfg0.N) : iblk0 V c 0 t = V c main_v0 := by
  have hz : (fun a => win0_0.index t a * main_v0.ty.shape.size a) = fun _ => 0 := by
    obtain rfl : t = t0_0 := fin_N0 t
    exact funext fun a => by fin_cases a <;> decide
  exact Memref.read_access_unit_zero (Elt Ideal) main_v0 hz (fun a => by rw [congrFun hz a]; simp) (V c main_v0)

/-- The input weights' block is the array of them. -/
theorem iblk0_1_eq (c : Dev nD) (t : Fin cfg0.N) : iblk0 V c 1 t = V c main_arg9 := by
  have hz : (fun a => win0_1.index t a * main_arg9.ty.shape.size a) = fun _ => 0 := by
    obtain rfl : t = t0_0 := fin_N0 t
    exact funext fun a => by fin_cases a <;> decide
  exact Memref.read_access_unit_zero (Elt Ideal) main_arg9 hz (fun a => by rw [congrFun hz a]; simp) (V c main_arg9)

/-- The first call's result array. -/
theorem arr0_eq (c : Dev nD) : (dat0 V c).arrAt 2 cfg0.N = foldG (V c main_v0) (V c main_arg9) :=
  (dat0 V c).arrAt_eq_of_cover 2 (foldG (V c main_v0) (V c main_arg9)) (fun t hf => by
    have hz : (fun a => win0_2.index t a * main_v1.ty.shape.size a) = fun _ => 0 := by
      obtain rfl : t = t0_0 := fin_N0 t
      exact funext fun a => by fin_cases a <;> decide
    show (cfg0.win 2).cut (grid0.coords t) ((dat0 V c).after 2 t) = _
    rw [after0_2, out0_value, iblk0_0_eq, iblk0_1_eq]
    exact (Memref.read_access_unit_zero (Elt Ideal) main_v1 hz (fun a => by rw [congrFun hz a]; simp) _).symm)
  fun i => ⟨t0_0, flush0_2 t0_0, by
    show i ∈ ((View.whole main_v1).slice (win0_2.rect t0_0)).set
    rw [View.set_slice_whole, Rect.mem_set_unit]
    intro a
    have h0 : (i 0 : Nat) < 128 := (i 0).isLt
    have h1 : (i 1 : Nat) < 4608 := (i 1).isLt
    match a with
    | ⟨0, _⟩ => show win0_2.index t0_0 0 * win0_2.size 0 ≤ (i 0 : Nat) ∧ (i 0 : Nat) < win0_2.index t0_0 0 * win0_2.size 0 + win0_2.xsize (grid0.coords t0_0) 0
                rw [show win0_2.index t0_0 0 * win0_2.size 0 = 0 from by decide +kernel, show win0_2.xsize (grid0.coords t0_0) 0 = 128 from by decide +kernel]; omega
    | ⟨1, _⟩ => show win0_2.index t0_0 1 * win0_2.size 1 ≤ (i 1 : Nat) ∧ (i 1 : Nat) < win0_2.index t0_0 1 * win0_2.size 1 + win0_2.xsize (grid0.coords t0_0) 1
                rw [show win0_2.index t0_0 1 * win0_2.size 1 = 0 from by decide +kernel, show win0_2.xsize (grid0.coords t0_0) 1 = 4608 from by decide +kernel]; omega⟩

end Cert.KernelIdeal.Value

end
-- ==== Proof.KernelIdeal.Host.lean ====
/- What the host code around the two calls leaves in the buffers the calls read, element by element in the arguments. -/
module

public import proofs.«01_k».proof.Proof.KernelIdeal.Folded
public import proofs.«01_k».proof.Proof.KernelIdeal.Whole
public import Idealize.ShloMosaic.Lib.StableHlo.ReadAt

@[expose] public section

noncomputable section

namespace Cert.KernelIdeal.Value

open Idealize.ShloMosaic Idealize.ShloMosaic.TcCoe Cert.KernelIdeal Cert.KernelIdeal.Gen Cert.KernelIdeal.Run Cert.Lstm

/-- The word that picks the candidate's lanes. -/
theorem lanes_word : ∀ j : Fin 512,
    IntOp.andi (IntOp.cmpi .sge (BitVec.ofNat 32 j.val) 256#32) (IntOp.cmpi .slt (BitVec.ofNat 32 j.val) 384#32) =
      if 256 ≤ j.val ∧ j.val < 384 then 1#1 else 0#1 := by decide +kernel

section stretches

variable (V : Valuation τ sig (Elt Ideal))

/-- The scatter weights, position by position. -/
theorem v0_at (k : Fin 9) (h i : Fin 128) :
    StableHlo.after hostOps0 V (Proc.devRef .tc main_v0) (ix3 k h i) = V (Proc.devRef .tc main_arg7) (ix2 k ⟨h.val * 128 + i.val, by omega⟩) := by
  after_reads_at

/-- The events by sequence and time. -/
theorem v15_at (s : Fin 16) (n : Fin 1024) (i : Fin 128) :
    StableHlo.after hostOps1_2 V (Proc.devRef .tc main_v15) (ix3 s n i) = V (Proc.devRef .tc main_arg0) (ix2 ⟨s.val * 1024 + n.val, by omega⟩ i) := by
  after_reads_at

/-- The gather weights, transposed. -/
theorem v18_at (k : Fin 9) (q j : Fin 128) :
    StableHlo.after hostOps1_2 V (Proc.devRef .tc main_v18) (ix3 k q j) = V (Proc.devRef .tc main_arg8) (ix2 k ⟨j.val * 128 + q.val, by omega⟩) := by
  after_reads_at

/-- The recurrent weights, transposed and scaled. -/
theorem v24_at (q : Fin 128) (j : Fin 512) (a b : EReal) (ha : V (Proc.devRef .tc main_arg10) (ix2 j q) = a)
    (hb : V (Proc.devRef .tc main_v8) (ix1 j) = b) :
    StableHlo.after hostOps1_2 V (Proc.devRef .tc main_v24) (ix2 q j) = a * b := by
  subst ha hb
  after_reads_at
  rfl

/-- The folded weights, scaled. -/
theorem v25_at (i : Fin 128) (k : Fin 9) (j : Fin 512) (a b : EReal)
    (ha : V (Proc.devRef .tc main_v1) (ix2 i ⟨k.val * 512 + j.val, by omega⟩) = a) (hb : V (Proc.devRef .tc main_v8) (ix1 j) = b) :
    StableHlo.after hostOps1_2 V (Proc.devRef .tc main_v25) (ix2 i ⟨k.val * 512 + j.val, by omega⟩) = a * b := by
  have e1 : (⟨(k.val * 512 + j.val) / 512 * 512 + (k.val * 512 + j.val) % 512, by omega⟩ : Fin 4608) = ⟨k.val * 512 + j.val, by omega⟩ :=
    Fin.ext (by simp only; omega)
  have e2 : (⟨(k.val * 512 + j.val) % 512, by omega⟩ : Fin 512) = j := Fin.ext (by simp only; omega)
  subst ha hb
  after_reads_at
  rw [e1, e2]
  rfl

/-- The normalisation's scale row. -/
theorem v26_at (j : Fin 128) :
    StableHlo.after hostOps1_2 V (Proc.devRef .tc main_v26) (ix2 0 j) = V (Proc.devRef .tc main_arg11) (ix1 j) := by
  after_reads_at

/-- The normalisation's offset row. -/
theorem v27_at (j : Fin 128) :
    StableHlo.after hostOps1_2 V (Proc.devRef .tc main_v27) (ix2 0 j) = V (Proc.devRef .tc main_arg12) (ix1 j) := by
  after_reads_at

/-- The result, sequences and times in one axis. -/
theorem v29_at (n : Fin 16384) (j : Fin 128) :
    StableHlo.after hostOps2 V (Proc.devRef .tc main_v29) (ix2 n j) =
      V (Proc.devRef .tc main_v28) (ix3 ⟨n.val / 1024, by omega⟩ ⟨n.val % 1024, by omega⟩ j) := by
  after_reads_at

/-- The factors on the gates. -/
theorem v8_at (j : Fin 512) :
    StableHlo.after hostOps1_1 (StableHlo.after hostOps1 V) (Proc.devRef .tc main_v8) (ix1 j) = (scale j : EReal) := by
  after_reads_at
  rw [lanes_word, ofBits_half]
  unfold scale
  split_ifs <;> rfl

end stretches

/-! ## The arguments by their mathematical names -/

variable (m : (ℓ : Loc nD τ sig) → Buf (Elt Ideal) ℓ) (ρ : Dev nD → PrngReg) (c : Dev nD)

/-- The events. -/
def evs : Fin 16384 → Fin 128 → EReal := fun n i => m ((c : Thread nD τ).loc main_arg0) (ix2 n i)
/-- The scatter weights: position, hidden lane, event lane. -/
def scat : Fin 9 → Fin 128 → Fin 128 → EReal := fun k h i => m ((c : Thread nD τ).loc main_arg7) (ix2 k ⟨h.val * 128 + i.val, by omega⟩)
/-- The gather weights: position, result lane, hidden lane. -/
def gath : Fin 9 → Fin 128 → Fin 128 → EReal := fun k j q => m ((c : Thread nD τ).loc main_arg8) (ix2 k ⟨j.val * 128 + q.val, by omega⟩)
/-- The input weights. -/
def inW : Fin 512 → Fin 128 → EReal := fun j h => m ((c : Thread nD τ).loc main_arg9) (ix2 j h)
/-- The recurrent weights. -/
def recW : Fin 512 → Fin 128 → EReal := fun j q => m ((c : Thread nD τ).loc main_arg10) (ix2 j q)
/-- The normalisation's scales. -/
def gam : Fin 128 → EReal := fun j => m ((c : Thread nD τ).loc main_arg11) (ix1 j)
/-- The normalisation's offsets. -/
def bet : Fin 128 → EReal := fun j => m ((c : Thread nD τ).loc main_arg12) (ix1 j)

/-- The events the second call reads. -/
theorem V5_events (s : Fin 16) (n : Fin 1024) (i : Fin 128) : V5 m ρ c main_v15 (ix3 s n i) = evs m c (event s n.val) i := by
  refine (v15_at (W4 m ρ c) s n i).trans ?_
  rw [W4_args m ρ c main_arg0 (by decide)]
  unfold evs event
  congr 2
  exact Fin.ext (by show s.val * 1024 + n.val = s.val * 1024 + n.val % 1024; rw [Nat.mod_eq_of_lt n.isLt])

/-- The factors, after the third stretch. -/
theorem W4_scale (j : Fin 512) : W4 m ρ c (Proc.devRef .tc main_v8) (ix1 j) = (scale j : EReal) := v8_at (W2 m ρ c) j

/-- The recurrent weights the second call reads. -/
theorem V5_rec (q : Fin 128) (j : Fin 512) : V5 m ρ c main_v24 (ix2 q j) = recW m c j q * (scale j : EReal) := by
  refine v24_at (W4 m ρ c) q j _ _ ?_ (W4_scale m ρ c j)
  rw [W4_args m ρ c main_arg10 (by decide)]
  rfl

/-- The gather weights the second call reads. -/
theorem V5_gath (k : Fin 9) (q j : Fin 128) : V5 m ρ c main_v18 (ix3 k q j) = gath m c k j q := by
  refine (v18_at (W4 m ρ c) k q j).trans ?_
  rw [W4_args m ρ c main_arg8 (by decide)]
  rfl

/-- The normalisation's scales the second call reads. -/
theorem V5_gam (j : Fin 128) : V5 m ρ c main_v26 (ix2 0 j) = gam m c j := by
  refine (v26_at (W4 m ρ c) j).trans ?_
  rw [W4_args m ρ c main_arg11 (by decide)]
  rfl

/-- The normalisation's offsets the second call reads. -/
theorem V5_bet (j : Fin 128) : V5 m ρ c main_v27 (ix2 0 j) = bet m c j := by
  refine (v27_at (W4 m ρ c) j).trans ?_
  rw [W4_args m ρ c main_arg12 (by decide)]
  rfl

/-- The first call's result, when the second call's host code reads it. -/
theorem W4_folded : W4 m ρ c (Proc.devRef .tc main_v1) = foldG (V1 m ρ c main_v0) (V1 m ρ c main_arg9) :=
  (W4_of m ρ c main_v1 (by decide)).trans ((W3_of m ρ c main_v1 (by decide)).trans ((W2_arr m ρ c 2).trans (arr0_eq (V1 m ρ) c)))

/-- The folded weights the second call reads. -/
theorem V5_folded (i : Fin 128) (k : Fin 9) (j : Fin 512) : V5 m ρ c main_v25 (ix2 i ⟨k.val * 512 + j.val, by omega⟩) =
    (∑ h : Fin 128, scat m c k h i * inW m c j h) * (scale j : EReal) := by
  refine v25_at (W4 m ρ c) i k j _ _ ?_ (W4_scale m ρ c j)
  rw [W4_folded]
  unfold foldG
  refine (sum_at _ _ i (k' := k) (j' := j) (Fin.ext ?_) (Fin.ext ?_)).trans ?_
  · show (k.val * 512 + j.val) / 512 = k.val
    omega
  · show (k.val * 512 + j.val) % 512 = j.val
    omega
  refine Finset.sum_congr rfl fun h _ => ?_
  have e0 : V1 m ρ c main_v0 (ix3 k h i) = scat m c k h i :=
    (v0_at (W0 m ρ c) k h i).trans (by rw [W0_args m ρ c main_arg7 (by decide)]; rfl)
  have e1 : V1 m ρ c main_arg9 (ix2 j h) = inW m c j h := by
    show W1 m ρ c (Proc.devRef .tc main_arg9) (ix2 j h) = _
    rw [W1_args m ρ c main_arg9 (by decide)]
    rfl
  rw [e0, e1]

end Cert.KernelIdeal.Value

end
-- ==== Proof.KernelIdeal.Value.lean ====
/- What the kernel's result array holds: at row `1024 g + t` the result at time `t` of sequence `g`. -/
module

public import proofs.«01_k».proof.Proof.KernelIdeal.Chain
public import proofs.«01_k».proof.Proof.KernelIdeal.Host

@[expose] public section

noncomputable section

namespace Cert.KernelIdeal.Value

open Idealize.ShloMosaic Idealize.ShloMosaic.TcCoe Cert.KernelIdeal Cert.KernelIdeal.Gen Cert.KernelIdeal.Run Cert.Lstm

variable (m : (ℓ : Loc nD τ sig) → Buf (Elt Ideal) ℓ) (ρ : Dev nD → PrngReg) (c : Dev nD)

/-- The kernel's result, element by element, for finite events, scatter weights and input weights. -/
theorem kernel_value (hev : ∀ n i, evs m c n i ≠ ⊤ ∧ evs m c n i ≠ ⊥) (hwsc : ∀ k h i, scat m c k h i ≠ ⊤ ∧ scat m c k h i ≠ ⊥)
    (hwih : ∀ j h, inW m c j h ≠ ⊤ ∧ inW m c j h ≠ ⊥) (n : Fin 16384) (j : Fin 128) :
    W7 m ρ c (Proc.devRef .tc main_v29) (ix2 n j) =
      Lstm.result (evs m c) (scat m c) (gath m c) (inW m c) (recW m c) (gam m c) (bet m c) ⟨n.val / 1024, by omega⟩ (n.val % 1024) j := by
  refine (v29_at (W6 m ρ c) n j).trans ?_
  have h : W6 m ρ c (Proc.devRef .tc main_v28) = (dat1 (V5 m ρ) c).arrAt 6 cfg1.N := W6_arr m ρ c 6
  rw [h, array_value (evs m c) (scat m c) (gath m c) (inW m c) (recW m c) (gam m c) (bet m c) (V5 m ρ) c hev hwsc hwih
    (V5_events m ρ c) (V5_folded m ρ c) (V5_rec m ρ c) (V5_gath m ρ c) (V5_gam m ρ c) (V5_bet m ρ c)]
  rfl

end Cert.KernelIdeal.Value

end
-- ==== Proof.ReferenceIdeal.Fold.lean ====
/- The reference's host program read as three stretches of operations around one counted loop: @main is one stretch, the
   loop of 1024 trips, and three stretches; the loop's body is four stretches. `run_fold`: every weakly fair execution ends with
   every buffer at the fold of these operations. `frame`: the arguments are written by none of them. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Fold

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- 18 host operations of @main, in order. -/
abbrev hostOps0 : List (HloOp τ sig (Elt F)) :=
  [ StableHlo.reshape main_arg7 main_v0 (rfl : (.f32 : EltTy) = .f32) shapeCasts_S9x16384_S9x128x128,
    StableHlo.binary main_arg0 main_v0 main_v1 ((fun l r => Host.dotGeneral dot_S16384x128_S9x128x128_S16384x9x128_1_2_0_01_n_n none l r) : (⟨S16384x128, .f32⟩ : BufTy).Contents (Elt F) → (⟨S9x128x128, .f32⟩ : BufTy).Contents (Elt F) → (⟨S16384x9x128, .f32⟩ : BufTy).Contents (Elt F)),
    StableHlo.reshape main_v1 main_v2 (rfl : (.f32 : EltTy) = .f32) shapeCasts_S16384x9x128_S16x1024x9x128,
    StableHlo.unary main_v2 main_v3 ((transpose S16x9x1024x128 [0, 2, 1, 3] · transposes_S16x1024x9x128_S16x9x1024x128_0_2_1_3) : (⟨S16x1024x9x128, .f32⟩ : BufTy).Contents (Elt F) → (⟨S16x9x1024x128, .f32⟩ : BufTy).Contents (Elt F)),
    StableHlo.reshape main_v3 main_v4 (rfl : (.f32 : EltTy) = .f32) shapeCasts_S16x9x1024x128_S144x1024x128,
    StableHlo.unary main_v4 main_v5 ((transpose S1024x144x128 [1, 0, 2] · transposes_S144x1024x128_S1024x144x128_1_0_2) : (⟨S144x1024x128, .f32⟩ : BufTy).Contents (Elt F) → (⟨S1024x144x128, .f32⟩ : BufTy).Contents (Elt F)),
    StableHlo.nullary main_cst (constant S_ .f32 0x00000000#32),
    StableHlo.unary main_cst main_v6 (broadcastInDim S144x128 ![] bcast_S_S144x128 : (⟨S_, .f32⟩ : BufTy).Contents (Elt F) → (⟨S144x128, .f32⟩ : BufTy).Contents (Elt F)),
    StableHlo.nullary main_cst_0 (constant S_ .f32 0x00000000#32),
    StableHlo.unary main_cst_0 main_v7 (broadcastInDim S1024x144x128 ![] bcast_S_S1024x144x128 : (⟨S_, .f32⟩ : BufTy).Contents (Elt F) → (⟨S1024x144x128, .f32⟩ : BufTy).Contents (Elt F)),
    StableHlo.nullary main_c (constantI S_ 32 0#32),
    StableHlo.unary main_v5 main_v8_0 id,
    StableHlo.unary main_arg9 main_v8_1 id,
    StableHlo.unary main_arg10 main_v8_2 id,
    StableHlo.unary main_c main_v8_3 id,
    StableHlo.unary main_v6 main_v8_4 id,
    StableHlo.unary main_v6 main_v8_5 id,
    StableHlo.unary main_v7 main_v8_6 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.binary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 23 host operations of @main, in order. -/
abbrev hostOps0_1 : List (HloOp τ sig (Elt F)) :=
  [ StableHlo.unary main_v8_6 main_v9 ((transpose S144x1024x128 [1, 0, 2] · transposes_S1024x144x128_S144x1024x128_1_0_2) : (⟨S1024x144x128, .f32⟩ : BufTy).Contents (Elt F) → (⟨S144x1024x128, .f32⟩ : BufTy).Contents (Elt F)),
    StableHlo.reshape main_v9 main_v10 (rfl : (.f32 : EltTy) = .f32) shapeCasts_S144x1024x128_S16x9x1024x128,
    StableHlo.unary main_v10 main_v11 ((transpose S16x1024x9x128 [0, 2, 1, 3] · transposes_S16x9x1024x128_S16x1024x9x128_0_2_1_3) : (⟨S16x9x1024x128, .f32⟩ : BufTy).Contents (Elt F) → (⟨S16x1024x9x128, .f32⟩ : BufTy).Contents (Elt F)),
    StableHlo.reshape main_v11 main_v12 (rfl : (.f32 : EltTy) = .f32) shapeCasts_S16x1024x9x128_S16384x9x128,
    StableHlo.reshape main_arg8 main_v13 (rfl : (.f32 : EltTy) = .f32) shapeCasts_S9x16384_S9x128x128,
    StableHlo.binary main_v13 main_v12 main_v14 ((fun l r => Host.dotGeneral dot_S9x128x128_S16384x9x128_S9x128x16384_2_2_1_0_0_1 none l r) : (⟨S9x128x128, .f32⟩ : BufTy).Contents (Elt F) → (⟨S16384x9x128, .f32⟩ : BufTy).Contents (Elt F) → (⟨S9x128x16384, .f32⟩ : BufTy).Contents (Elt F)),
    StableHlo.unary main_v14 main_v15 ((transpose S16384x9x128 [2, 0, 1] · transposes_S9x128x16384_S16384x9x128_2_0_1) : (⟨S9x128x16384, .f32⟩ : BufTy).Contents (Elt F) → (⟨S16384x9x128, .f32⟩ : BufTy).Contents (Elt F)),
    StableHlo.nullary main_v16 (iotaInDim S16384 32 0),
    StableHlo.unary main_v16 main_v17 (broadcastInDim S16384x9 ![0] bcast_S16384_S16384x9_0 : (⟨S16384, .i32⟩ : BufTy).Contents (Elt F) → (⟨S16384x9, .i32⟩ : BufTy).Contents (Elt F)),
    StableHlo.reshape main_v17 main_v18 (rfl : (.i32 : EltTy) = .i32) shapeCasts_S16384x9_S147456,
    StableHlo.reshape main_v15 main_v19 (rfl : (.f32 : EltTy) = .f32) shapeCasts_S16384x9x128_S147456x128,
    StableHlo.nullary main_cst_1 (constant S_ .f32 0x00000000#32),
    StableHlo.unary main_cst_1 main_v20 (broadcastInDim S16384x128 ![] bcast_S_S16384x128 : (⟨S_, .f32⟩ : BufTy).Contents (Elt F) → (⟨S16384x128, .f32⟩ : BufTy).Contents (Elt F)),
    StableHlo.unary main_v18 main_v21 (broadcastInDim S147456x1 ![0] bcast_S147456_S147456x1_0 : (⟨S147456, .i32⟩ : BufTy).Contents (Elt F) → (⟨S147456x1, .i32⟩ : BufTy).Contents (Elt F)),
    StableHlo.ternary main_v20 main_v21 main_v19 main_v22 ((fun x i u => Host.scatterAdd scatter_S16384x128_S147456x1_S147456x128_1_0_0_1 x i u) : (⟨S16384x128, .f32⟩ : BufTy).Contents (Elt F) → (⟨S147456x1, .i32⟩ : BufTy).Contents (Elt F) → (⟨S147456x128, .f32⟩ : BufTy).Contents (Elt F) → (⟨S16384x128, .f32⟩ : BufTy).Contents (Elt F)),
    StableHlo.binary main_v22 main_arg0 main_v23 (addf : (⟨S16384x128, .f32⟩ : BufTy).Contents (Elt F) → (⟨S16384x128, .f32⟩ : BufTy).Contents (Elt F) → (⟨S16384x128, .f32⟩ : BufTy).Contents (Elt F)),
    StableHlo.nullary main_cst_2 (constant S_ .f32 0x00000000#32),
    StableHlo.binary main_v23 main_cst_2 main_v24 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v24 main_v25 (broadcastInDim S16384x1 ![0] bcast_S16384_S16384x1_0 : (⟨S16384, .f32⟩ : BufTy).Contents (Elt F) → (⟨S16384x1, .f32⟩ : BufTy).Contents (Elt F)),
    StableHlo.nullary main_cst_3 (constant S_ .f32 0x43000000#32),
    StableHlo.unary main_cst_3 main_v26 (broadcastInDim S16384x1 ![] bcast_S_S16384x1 : (⟨S_, .f32⟩ : BufTy).Contents (Elt F) → (⟨S16384x1, .f32⟩ : BufTy).Contents (Elt F)),
    StableHlo.binary main_v25 main_v26 main_v27 (Host.divf : (⟨S16384x1, .f32⟩ : BufTy).Contents (Elt F) → (⟨S16384x1, .f32⟩ : BufTy).Contents (Elt F) → (⟨S16384x1, .f32⟩ : BufTy).Contents (Elt F)),
    StableHlo.nullary main_c_4 (constantI S_ 32 0#32) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.reshape_bufs_sub .., StableHlo.binary_bufs_sub .., StableHlo.unary_bufs_sub .., StableHlo.nullary_bufs_sub .., StableHlo.unary_bufs_sub .., StableHlo.reshape_bufs_sub .., StableHlo.reshape_bufs_sub .., StableHlo.nullary_bufs_sub .., StableHlo.unary_bufs_sub .., StableHlo.unary_bufs_sub .., StableHlo.ternary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- 23 host operations of @_var (main_call2), in order. -/
abbrev hostOps0_2 : List (HloOp τ sig (Elt F)) :=
  [ StableHlo.TRef.nullary (.of main_call2_cst : StableHlo.TRef sig ⟨S_, .f32⟩) (constant S_ .f32 0x00000000#32),
    StableHlo.TRef.binary (.of main_v23 : StableHlo.TRef sig ⟨S16384x128, .f32⟩) (.of main_call2_cst : StableHlo.TRef sig ⟨S_, .f32⟩) (.of main_call2_v0 : StableHlo.TRef sig ⟨S16384, .f32⟩) (fun x v => Host.reduceAdd x v reducesTo_S16384x128_S16384_d1 h_S_),
    StableHlo.TRef.unary (.of main_call2_v0 : StableHlo.TRef sig ⟨S16384, .f32⟩) (.of main_call2_v1 : StableHlo.TRef sig ⟨S16384x1, .f32⟩) (broadcastInDim S16384x1 ![0] bcast_S16384_S16384x1_0),
    StableHlo.TRef.nullary (.of main_call2_cst_0 : StableHlo.TRef sig ⟨S_, .f32⟩) (constant S_ .f32 0x43000000#32),
    StableHlo.TRef.unary (.of main_call2_cst_0 : StableHlo.TRef sig ⟨S_, .f32⟩) (.of main_call2_v2 : StableHlo.TRef sig ⟨S16384x1, .f32⟩) (broadcastInDim S16384x1 ![] bcast_S_S16384x1),
    StableHlo.TRef.binary (.of main_call2_v1 : StableHlo.TRef sig ⟨S16384x1, .f32⟩) (.of main_call2_v2 : StableHlo.TRef sig ⟨S16384x1, .f32⟩) (.of main_call2_v3 : StableHlo.TRef sig ⟨S16384x1, .f32⟩) Host.divf,
    StableHlo.TRef.unary (.of main_call2_v3 : StableHlo.TRef sig ⟨S16384x1, .f32⟩) (.of main_call2_v4 : StableHlo.TRef sig ⟨S16384x128, .f32⟩) (broadcastInDim S16384x128 ![0, 1] bcast_S16384x1_S16384x128_0_1),
    StableHlo.TRef.binary (.of main_v23 : StableHlo.TRef sig ⟨S16384x128, .f32⟩) (.of main_call2_v4 : StableHlo.TRef sig ⟨S16384x128, .f32⟩) (.of main_call2_v5 : StableHlo.TRef sig ⟨S16384x128, .f32⟩) subf,
    StableHlo.TRef.binary (.of main_call2_v5 : StableHlo.TRef sig ⟨S16384x128, .f32⟩) (.of main_call2_v5 : StableHlo.TRef sig ⟨S16384x128, .f32⟩) (.of main_call2_v6 : StableHlo.TRef sig ⟨S16384x128, .f32⟩) mulf,
    StableHlo.TRef.unary (.of main_c_4 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x43000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S16384x128, .f32⟩) (.of main_call2_cst_2 : StableHlo.TRef sig ⟨S_, .f32⟩) (.of main_call2_v9 : StableHlo.TRef sig ⟨S16384, .f32⟩) (fun x v => Host.reduceAdd x v reducesTo_S16384x128_S16384_d1 h_S_),
    StableHlo.TRef.unary (.of main_call2_v9 : StableHlo.TRef sig ⟨S16384, .f32⟩) (.of main_call2_v10 : StableHlo.TRef sig ⟨S16384x1, .f32⟩) (broadcastInDim S16384x1 ![0] bcast_S16384_S16384x1_0),
    StableHlo.TRef.unary (.of main_call2_v8 : StableHlo.TRef sig ⟨S_, .f32⟩) (.of main_call2_v11 : StableHlo.TRef sig ⟨S16384x1, .f32⟩) (broadcastInDim S16384x1 ![] bcast_S_S16384x1),
    StableHlo.TRef.binary (.of main_call2_v10 : StableHlo.TRef sig ⟨S16384x1, .f32⟩) (.of main_call2_v11 : StableHlo.TRef sig ⟨S16384x1, .f32⟩) (.of main_call2_v12 : StableHlo.TRef sig ⟨S16384x1, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S16384x1, .f32⟩) (broadcastInDim S16384x1 ![] bcast_S_S16384x1),
    StableHlo.TRef.ternary (.of main_call2_v13 : StableHlo.TRef sig ⟨S_, .i1⟩) (.of main_call2_v12 : StableHlo.TRef sig ⟨S16384x1, .f32⟩) (.of main_call2_call0_v1 : StableHlo.TRef sig ⟨S16384x1, .f32⟩) (.of main_v28 : StableHlo.TRef sig ⟨S16384x1, .f32⟩) (fun p a b => select (broadcastInDim S16384x1 ![] bcast_S_S16384x1 p) a b) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 14 host operations of @main, in order. -/
abbrev hostOps0_3 : List (HloOp τ sig (Elt F)) :=
  [ StableHlo.unary main_v27 main_v29 (broadcastInDim S16384x128 ![0, 1] bcast_S16384x1_S16384x128_0_1 : (⟨S16384x1, .f32⟩ : BufTy).Contents (Elt F) → (⟨S16384x128, .f32⟩ : BufTy).Contents (Elt F)),
    StableHlo.binary main_v23 main_v29 main_v30 (subf : (⟨S16384x128, .f32⟩ : BufTy).Contents (Elt F) → (⟨S16384x128, .f32⟩ : BufTy).Contents (Elt F) → (⟨S16384x128, .f32⟩ : BufTy).Contents (Elt F)),
    StableHlo.nullary main_cst_5 (constant S_ .f32 0x3727C5AC#32),
    StableHlo.unary main_cst_5 main_v31 (broadcastInDim S16384x1 ![] bcast_S_S16384x1 : (⟨S_, .f32⟩ : BufTy).Contents (Elt F) → (⟨S16384x1, .f32⟩ : BufTy).Contents (Elt F)),
    StableHlo.binary main_v28 main_v31 main_v32 (addf : (⟨S16384x1, .f32⟩ : BufTy).Contents (Elt F) → (⟨S16384x1, .f32⟩ : BufTy).Contents (Elt F) → (⟨S16384x1, .f32⟩ : BufTy).Contents (Elt F)),
    StableHlo.unary main_v32 main_v33 (Host.sqrt : (⟨S16384x1, .f32⟩ : BufTy).Contents (Elt F) → (⟨S16384x1, .f32⟩ : BufTy).Contents (Elt F)),
    StableHlo.unary main_v33 main_v34 (broadcastInDim S16384x128 ![0, 1] bcast_S16384x1_S16384x128_0_1 : (⟨S16384x1, .f32⟩ : BufTy).Contents (Elt F) → (⟨S16384x128, .f32⟩ : BufTy).Contents (Elt F)),
    StableHlo.binary main_v30 main_v34 main_v35 (Host.divf : (⟨S16384x128, .f32⟩ : BufTy).Contents (Elt F) → (⟨S16384x128, .f32⟩ : BufTy).Contents (Elt F) → (⟨S16384x128, .f32⟩ : BufTy).Contents (Elt F)),
    StableHlo.unary main_arg11 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S16384x128 ![0, 1] bcast_S1x128_S16384x128_0_1 : (⟨S1x128, .f32⟩ : BufTy).Contents (Elt F) → (⟨S16384x128, .f32⟩ : BufTy).Contents (Elt F)),
    StableHlo.binary main_v35 main_v37 main_v38 (mulf : (⟨S16384x128, .f32⟩ : BufTy).Contents (Elt F) → (⟨S16384x128, .f32⟩ : BufTy).Contents (Elt F) → (⟨S16384x128, .f32⟩ : BufTy).Contents (Elt F)),
    StableHlo.unary main_arg12 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S16384x128 ![0, 1] bcast_S1x128_S16384x128_0_1 : (⟨S1x128, .f32⟩ : BufTy).Contents (Elt F) → (⟨S16384x128, .f32⟩ : BufTy).Contents (Elt F)),
    StableHlo.binary main_v38 main_v40 main_v41 (addf : (⟨S16384x128, .f32⟩ : BufTy).Contents (Elt F) → (⟨S16384x128, .f32⟩ : BufTy).Contents (Elt F) → (⟨S16384x128, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- `main` is the stretch before the loop, the loop, and the three stretches after it. -/
theorem main_chain (c : Dev nD) : main (F := F) c = (Pipeline.chain
  [ StableHlo.seq hostOps0,
    HostLoop.enter 0,
    StableHlo.seq hostOps0_1,
    StableHlo.seq hostOps0_2,
    StableHlo.seq hostOps0_3 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v8_0 : StableHlo.TRef sig ⟨S1024x144x128, .f32⟩) ![(.of main_v8_3 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x144x128, .f32⟩) (fun x i => Host.dynamicSlice S1x144x128 x (fun k => (i k (Shape.Idx.first h_S_)).toInt) sliceFits_S1024x144x128_S1x144x128),
    StableHlo.TRef.reshape (.of main_while0b_call0_v0 : StableHlo.TRef sig ⟨S1x144x128, .f32⟩) (.of main_while0b_v42 : StableHlo.TRef sig ⟨S144x128, .f32⟩) (rfl : (.f32 : EltTy) = .f32) shapeCasts_S1x144x128_S144x128 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 39 host operations of host loop 0's body region, in order. -/
abbrev while0Ops0_1 : List (HloOp τ sig (Elt F)) :=
  ( StableHlo.unary main_v8_1 main_while0b_v43 ((transpose S128x512 [1, 0] · transposes_S512x128_S128x512_1_0) : (⟨S512x128, .f32⟩ : BufTy).Contents (Elt F) → (⟨S128x512, .f32⟩ : BufTy).Contents (Elt F))
  :: StableHlo.binary main_while0b_v42 main_while0b_v43 main_while0b_v44 ((fun l r => Host.dotGeneral dot_S144x128_S128x512_S144x512_1_0_0_1_n_n none l r) : (⟨S144x128, .f32⟩ : BufTy).Contents (Elt F) → (⟨S128x512, .f32⟩ : BufTy).Contents (Elt F) → (⟨S144x512, .f32⟩ : BufTy).Contents (Elt F))
  :: StableHlo.unary main_v8_2 main_while0b_v45 ((transpose S128x512 [1, 0] · transposes_S512x128_S128x512_1_0) : (⟨S512x128, .f32⟩ : BufTy).Contents (Elt F) → (⟨S128x512, .f32⟩ : BufTy).Contents (Elt F))
  :: StableHlo.binary main_v8_4 main_while0b_v45 main_while0b_v46 ((fun l r => Host.dotGeneral dot_S144x128_S128x512_S144x512_1_0_0_1_n_n none l r) : (⟨S144x128, .f32⟩ : BufTy).Contents (Elt F) → (⟨S128x512, .f32⟩ : BufTy).Contents (Elt F) → (⟨S144x512, .f32⟩ : BufTy).Contents (Elt F))
  :: StableHlo.binary main_while0b_v44 main_while0b_v46 main_while0b_v47 (addf : (⟨S144x512, .f32⟩ : BufTy).Contents (Elt F) → (⟨S144x512, .f32⟩ : BufTy).Contents (Elt F) → (⟨S144x512, .f32⟩ : BufTy).Contents (Elt F))
  :: StableHlo.unary main_while0b_v47 main_while0b_v48 ((extractStridedSlice S144x128 ![0, 0] · slices_S144x512_S144x128_0_0) : (⟨S144x512, .f32⟩ : BufTy).Contents (Elt F) → (⟨S144x128, .f32⟩ : BufTy).Contents (Elt F))
  :: StableHlo.unary main_while0b_v47 main_while0b_v49 ((extractStridedSlice S144x128 ![0, 128] · slices_S144x512_S144x128_0_128) : (⟨S144x512, .f32⟩ : BufTy).Contents (Elt F) → (⟨S144x128, .f32⟩ : BufTy).Contents (Elt F))
  :: StableHlo.unary main_while0b_v47 main_while0b_v50 ((extractStridedSlice S144x128 ![0, 256] · slices_S144x512_S144x128_0_256) : (⟨S144x512, .f32⟩ : BufTy).Contents (Elt F) → (⟨S144x128, .f32⟩ : BufTy).Contents (Elt F))
  :: StableHlo.unary main_while0b_v47 main_while0b_v51 ((extractStridedSlice S144x128 ![0, 384] · slices_S144x512_S144x128_0_384) : (⟨S144x512, .f32⟩ : BufTy).Contents (Elt F) → (⟨S144x128, .f32⟩ : BufTy).Contents (Elt F))
  :: StableHlo.unary main_while0b_v48 main_while0b_v52 (Host.negf : (⟨S144x128, .f32⟩ : BufTy).Contents (Elt F) → (⟨S144x128, .f32⟩ : BufTy).Contents (Elt F))
  :: StableHlo.unary main_while0b_v52 main_while0b_v53 (Host.exp : (⟨S144x128, .f32⟩ : BufTy).Contents (Elt F) → (⟨S144x128, .f32⟩ : BufTy).Contents (Elt F))
  :: StableHlo.nullary main_while0b_cst_12 (constant S_ .f32 0x3F800000#32)
  :: StableHlo.unary main_while0b_cst_12 main_while0b_v54 (broadcastInDim S144x128 ![] bcast_S_S144x128 : (⟨S_, .f32⟩ : BufTy).Contents (Elt F) → (⟨S144x128, .f32⟩ : BufTy).Contents (Elt F))
  :: StableHlo.binary main_while0b_v54 main_while0b_v53 main_while0b_v55 (addf : (⟨S144x128, .f32⟩ : BufTy).Contents (Elt F) → (⟨S144x128, .f32⟩ : BufTy).Contents (Elt F) → (⟨S144x128, .f32⟩ : BufTy).Contents (Elt F))
  :: StableHlo.nullary main_while0b_cst_13 (constant S_ .f32 0x3F800000#32)
  :: StableHlo.unary main_while0b_cst_13 main_while0b_v56 (broadcastInDim S144x128 ![] bcast_S_S144x128 : (⟨S_, .f32⟩ : BufTy).Contents (Elt F) → (⟨S144x128, .f32⟩ : BufTy).Contents (Elt F))
  :: StableHlo.binary main_while0b_v56 main_while0b_v55 main_while0b_v57 (Host.divf : (⟨S144x128, .f32⟩ : BufTy).Contents (Elt F) → (⟨S144x128, .f32⟩ : BufTy).Contents (Elt F) → (⟨S144x128, .f32⟩ : BufTy).Contents (Elt F))
  :: StableHlo.unary main_while0b_v49 main_while0b_v58 (Host.negf : (⟨S144x128, .f32⟩ : BufTy).Contents (Elt F) → (⟨S144x128, .f32⟩ : BufTy).Contents (Elt F))
  :: StableHlo.unary main_while0b_v58 main_while0b_v59 (Host.exp : (⟨S144x128, .f32⟩ : BufTy).Contents (Elt F) → (⟨S144x128, .f32⟩ : BufTy).Contents (Elt F))
  :: StableHlo.nullary main_while0b_cst_14 (constant S_ .f32 0x3F800000#32)
  :: StableHlo.unary main_while0b_cst_14 main_while0b_v60 (broadcastInDim S144x128 ![] bcast_S_S144x128 : (⟨S_, .f32⟩ : BufTy).Contents (Elt F) → (⟨S144x128, .f32⟩ : BufTy).Contents (Elt F))
  :: StableHlo.binary main_while0b_v60 main_while0b_v59 main_while0b_v61 (addf : (⟨S144x128, .f32⟩ : BufTy).Contents (Elt F) → (⟨S144x128, .f32⟩ : BufTy).Contents (Elt F) → (⟨S144x128, .f32⟩ : BufTy).Contents (Elt F))
  :: StableHlo.nullary main_while0b_cst_15 (constant S_ .f32 0x3F800000#32)
  :: StableHlo.unary main_while0b_cst_15 main_while0b_v62 (broadcastInDim S144x128 ![] bcast_S_S144x128 : (⟨S_, .f32⟩ : BufTy).Contents (Elt F) → (⟨S144x128, .f32⟩ : BufTy).Contents (Elt F))
  :: StableHlo.binary main_while0b_v62 main_while0b_v61 main_while0b_v63 (Host.divf : (⟨S144x128, .f32⟩ : BufTy).Contents (Elt F) → (⟨S144x128, .f32⟩ : BufTy).Contents (Elt F) → (⟨S144x128, .f32⟩ : BufTy).Contents (Elt F))
  :: StableHlo.unary main_while0b_v50 main_while0b_v64 (Host.tanh : (⟨S144x128, .f32⟩ : BufTy).Contents (Elt F) → (⟨S144x128, .f32⟩ : BufTy).Contents (Elt F))
  :: StableHlo.unary main_while0b_v51 main_while0b_v65 (Host.negf : (⟨S144x128, .f32⟩ : BufTy).Contents (Elt F) → (⟨S144x128, .f32⟩ : BufTy).Contents (Elt F))
  :: StableHlo.unary main_while0b_v65 main_while0b_v66 (Host.exp : (⟨S144x128, .f32⟩ : BufTy).Contents (Elt F) → (⟨S144x128, .f32⟩ : BufTy).Contents (Elt F))
  :: StableHlo.nullary main_while0b_cst_16 (constant S_ .f32 0x3F800000#32)
  :: StableHlo.unary main_while0b_cst_16 main_while0b_v67 (broadcastInDim S144x128 ![] bcast_S_S144x128 : (⟨S_, .f32⟩ : BufTy).Contents (Elt F) → (⟨S144x128, .f32⟩ : BufTy).Contents (Elt F))
  :: StableHlo.binary main_while0b_v67 main_while0b_v66 main_while0b_v68 (addf : (⟨S144x128, .f32⟩ : BufTy).Contents (Elt F) → (⟨S144x128, .f32⟩ : BufTy).Contents (Elt F) → (⟨S144x128, .f32⟩ : BufTy).Contents (Elt F))
  :: StableHlo.nullary main_while0b_cst_17 (constant S_ .f32 0x3F800000#32)
  :: StableHlo.unary main_while0b_cst_17 main_while0b_v69 (broadcastInDim S144x128 ![] bcast_S_S144x128 : (⟨S_, .f32⟩ : BufTy).Contents (Elt F) → (⟨S144x128, .f32⟩ : BufTy).Contents (Elt F))
  :: StableHlo.binary main_while0b_v69 main_while0b_v68 main_while0b_v70 (Host.divf : (⟨S144x128, .f32⟩ : BufTy).Contents (Elt F) → (⟨S144x128, .f32⟩ : BufTy).Contents (Elt F) → (⟨S144x128, .f32⟩ : BufTy).Contents (Elt F))
  :: StableHlo.binary main_while0b_v63 main_v8_5 main_while0b_v71 (mulf : (⟨S144x128, .f32⟩ : BufTy).Contents (Elt F) → (⟨S144x128, .f32⟩ : BufTy).Contents (Elt F) → (⟨S144x128, .f32⟩ : BufTy).Contents (Elt F))
  :: StableHlo.binary main_while0b_v57 main_while0b_v64 main_while0b_v72 (mulf : (⟨S144x128, .f32⟩ : BufTy).Contents (Elt F) → (⟨S144x128, .f32⟩ : BufTy).Contents (Elt F) → (⟨S144x128, .f32⟩ : BufTy).Contents (Elt F))
  :: StableHlo.binary main_while0b_v71 main_while0b_v72 main_while0b_v73 (addf : (⟨S144x128, .f32⟩ : BufTy).Contents (Elt F) → (⟨S144x128, .f32⟩ : BufTy).Contents (Elt F) → (⟨S144x128, .f32⟩ : BufTy).Contents (Elt F))
  :: StableHlo.unary main_while0b_v73 main_while0b_v74 (Host.tanh : (⟨S144x128, .f32⟩ : BufTy).Contents (Elt F) → (⟨S144x128, .f32⟩ : BufTy).Contents (Elt F))
  :: StableHlo.binary main_while0b_v70 main_while0b_v74 main_while0b_v75 (mulf : (⟨S144x128, .f32⟩ : BufTy).Contents (Elt F) → (⟨S144x128, .f32⟩ : BufTy).Contents (Elt F) → (⟨S144x128, .f32⟩ : BufTy).Contents (Elt F))
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- 4 host operations of @dynamic_update_index_in_dim (main_while0b_call1), in order. -/
abbrev while0Ops0_2 : List (HloOp τ sig (Elt F)) :=
  [ StableHlo.TRef.unary (.of main_while0b_v75 : StableHlo.TRef sig ⟨S144x128, .f32⟩) (.of main_while0b_call1_v0 : StableHlo.TRef sig ⟨S1x144x128, .f32⟩) (broadcastInDim S1x144x128 ![1, 2] bcast_S144x128_S1x144x128_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v8_6 : StableHlo.TRef sig ⟨S1024x144x128, .f32⟩) (.of main_while0b_call1_v0 : StableHlo.TRef sig ⟨S1x144x128, .f32⟩) ![(.of main_v8_3 : StableHlo.TRef sig ⟨S_, .i32⟩), (.of main_while0b_call1_c : StableHlo.TRef sig ⟨S_, .i32⟩), (.of main_while0b_call1_c_0 : StableHlo.TRef sig ⟨S_, .i32⟩)] (.of main_while0b_v76 : StableHlo.TRef sig ⟨S1024x144x128, .f32⟩) (fun x u i => Host.dynamicUpdateSlice x u (fun k => (i k (Shape.Idx.first h_S_)).toInt) updateFits_S1024x144x128_S1x144x128) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 6 host operations of host loop 0's body region, in order. -/
abbrev while0Ops0_3 : List (HloOp τ sig (Elt F)) :=
  [ StableHlo.nullary main_while0b_c_18 (constantI S_ 32 1#32),
    StableHlo.binary main_v8_3 main_while0b_c_18 main_while0b_v77 (addi : (⟨S_, .i32⟩ : BufTy).Contents (Elt F) → (⟨S_, .i32⟩ : BufTy).Contents (Elt F) → (⟨S_, .i32⟩ : BufTy).Contents (Elt F)),
    StableHlo.unary main_while0b_v77 main_v8_3 id,
    StableHlo.unary main_while0b_v75 main_v8_4 id,
    StableHlo.unary main_while0b_v73 main_v8_5 id,
    StableHlo.unary main_while0b_v76 main_v8_6 id ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The loop's body is its four stretches in order. -/
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons]
  chain_rfl

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_cst, main_v6, main_cst_0, main_v7, main_c, main_v8_0, main_v8_1, main_v8_2, main_v8_3, main_v8_4, main_v8_5, main_v8_6]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_c_0, main_while0b_call0_v0, main_while0b_v42]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v43, main_while0b_v44, main_while0b_v45, main_while0b_v46, main_while0b_v47, main_while0b_v48, main_while0b_v49, main_while0b_v50, main_while0b_v51, main_while0b_v52, main_while0b_v53, main_while0b_cst_12, main_while0b_v54, main_while0b_v55, main_while0b_cst_13, main_while0b_v56, main_while0b_v57, main_while0b_v58, main_while0b_v59, main_while0b_cst_14, main_while0b_v60, main_while0b_v61, main_while0b_cst_15, main_while0b_v62, main_while0b_v63, main_while0b_v64, main_while0b_v65, main_while0b_v66, main_while0b_cst_16, main_while0b_v67, main_while0b_v68, main_while0b_cst_17, main_while0b_v69, main_while0b_v70, main_while0b_v71, main_while0b_v72, main_while0b_v73, main_while0b_v74, main_while0b_v75]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_v0, main_while0b_call1_c, main_while0b_call1_c_0, main_while0b_v76]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_c_18, main_while0b_v77, main_v8_3, main_v8_4, main_v8_5, main_v8_6]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_1` writes, in order. -/
abbrev hostOps0_1_W : List (Ref sig .tc) := [main_v9, main_v10, main_v11, main_v12, main_v13, main_v14, main_v15, main_v16, main_v17, main_v18, main_v19, main_cst_1, main_v20, main_v21, main_v22, main_v23, main_cst_2, main_v24, main_v25, main_cst_3, main_v26, main_v27, main_c_4]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v28]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v29, main_v30, main_cst_5, main_v31, main_v32, main_v33, main_v34, main_v35, main_v36, main_v37, main_v38, main_v39, main_v40, main_v41]
theorem hostOps0_3_writes : (hostOps0_3 : List (HloOp τ sig (Elt F))).Forall fun op => op.writes ⊆ (hostOps0_3_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_12 (constantI S_ 32 1024#32),
    StableHlo.binary main_v8_3 main_while0c_c_12 main_while0c_v42 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3]
abbrev postI : List (List (HloOp τ sig (Elt F))) := [hostOps0_1, hostOps0_2, hostOps0_3]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.nil))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.nil)))

/-- The reference each operation of `condOps` writes, in order. -/
abbrev condOps_W : List (Ref sig .tc) := [main_while0c_c_12, main_while0c_v42]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v8_3`) is written by one stretch of the body, `while0Ops0_3`: not by the condition, nor by the
    body's other stretches. -/
theorem ctr_cond (V : Valuation τ sig (Elt F)) : after condOps V (Proc.devRef .tc main_v8_3) = V (Proc.devRef .tc main_v8_3) :=
  after_of_writes_sub condOps V condOps_writes (by decide +kernel)
theorem ctr_while0Ops0 (V : Valuation τ sig (Elt F)) : after while0Ops0 V (Proc.devRef .tc main_v8_3) = V (Proc.devRef .tc main_v8_3) :=
  after_of_writes_sub while0Ops0 V while0Ops0_writes (by decide +kernel)
theorem ctr_while0Ops0_1 (V : Valuation τ sig (Elt F)) : after while0Ops0_1 V (Proc.devRef .tc main_v8_3) = V (Proc.devRef .tc main_v8_3) :=
  after_of_writes_sub while0Ops0_1 V while0Ops0_1_writes (by decide +kernel)
theorem ctr_while0Ops0_2 (V : Valuation τ sig (Elt F)) : after while0Ops0_2 V (Proc.devRef .tc main_v8_3) = V (Proc.devRef .tc main_v8_3) :=
  after_of_writes_sub while0Ops0_2 V while0Ops0_2_writes (by decide +kernel)

/-- `while0Ops0_3` leaves the counter one step on. -/
theorem ctr_step (X : Valuation τ sig (Elt F)) :
    after while0Ops0_3 X (Proc.devRef .tc main_v8_3) = addi (X (Proc.devRef .tc main_v8_3)) (constantI S_ 32 1#32) := by
  after_results
  rfl

/-- The counter is the loop's lower bound at the loop's entry: its last writer before the loop read back. -/
theorem ctr_entry (c : Dev nD) : entryContents preI m c (Proc.devRef .tc main_v8_3) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v8_3) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_2, ctr_while0Ops0_1, ctr_while0Ops0, ctr_cond, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v8_3 HostLoop.idx0)
        (HloOp.result _ (atK m k c) main_while0c_c_12 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1024 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1024 m ρ (cond_spec m)

/-! ## The buffers nothing writes -/

/-- Every buffer that some operation of @main or of the loop writes. -/
abbrev written : List (Ref sig .tc) :=
  hostOps0_W ++ (condOps_W ++ (while0Ops0_W ++ (while0Ops0_1_W ++ (while0Ops0_2_W ++ (while0Ops0_3_W ++
    (hostOps0_1_W ++ (hostOps0_2_W ++ hostOps0_3_W)))))))

/-- A buffer that nothing writes keeps its launch contents to the loop's entry. -/
theorem entry_keep (c : Dev nD) (r : Ref sig .tc) (h : r ∉ written) :
    entryContents preI m c (Proc.devRef .tc r) = m ((c.tc : Thread nD τ).loc r) := by
  simp only [written, List.mem_append, not_or] at h
  simp only [entryContents, afterL_cons, afterL_nil]
  exact after_of_writes_sub hostOps0 _ hostOps0_writes h.1

/-- A buffer that nothing writes keeps its contents through one trip. -/
theorem body_keep (V : Valuation τ sig (Elt F)) (r : Ref sig .tc) (h : r ∉ written) :
    afterL bodyI (after condOps V) (Proc.devRef .tc r) = V (Proc.devRef .tc r) := by
  simp only [written, List.mem_append, not_or] at h
  obtain ⟨_, hc, h0, h1, h2, h3, _⟩ := h
  simp only [afterL_cons, afterL_nil]
  rw [after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- A buffer that nothing writes holds its launch contents before every condition. -/
theorem atK_keep (c : Dev nD) (r : Ref sig .tc) (h : r ∉ written) :
    ∀ k, atK m k c (Proc.devRef .tc r) = m ((c.tc : Thread nD τ).loc r)
  | 0 => entry_keep m c r h
  | k + 1 => (body_keep (atK m k c) r h).trans (atK_keep c r h k)

/-- A buffer that nothing writes holds its launch contents at the end. -/
theorem final_keep (c : Dev nD) (r : Ref sig .tc) (h : r ∉ written) :
    finalContents condOps preI bodyI postI 1024 m c (Proc.devRef .tc r) = m ((c.tc : Thread nD τ).loc r) := by
  have hk := atK_keep m c r h 1024
  simp only [written, List.mem_append, not_or] at h
  obtain ⟨_, hc, _, _, _, _, h1, h2, h3⟩ := h
  simp only [finalContents, afterL_cons, afterL_nil]
  rw [after_of_writes_sub hostOps0_3 _ hostOps0_3_writes h3, after_of_writes_sub hostOps0_2 _ hostOps0_2_writes h2,
    after_of_writes_sub hostOps0_1 _ hostOps0_1_writes h1, after_of_writes_sub condOps _ condOps_writes hc]
  exact hk

theorem main_arg0_kept : main_arg0 ∉ written := by decide +kernel
theorem main_arg1_kept : main_arg1 ∉ written := by decide +kernel
theorem main_arg2_kept : main_arg2 ∉ written := by decide +kernel
theorem main_arg3_kept : main_arg3 ∉ written := by decide +kernel
theorem main_arg4_kept : main_arg4 ∉ written := by decide +kernel
theorem main_arg5_kept : main_arg5 ∉ written := by decide +kernel
theorem main_arg6_kept : main_arg6 ∉ written := by decide +kernel
theorem main_arg7_kept : main_arg7 ∉ written := by decide +kernel
theorem main_arg8_kept : main_arg8 ∉ written := by decide +kernel
theorem main_arg9_kept : main_arg9 ∉ written := by decide +kernel
theorem main_arg10_kept : main_arg10 ∉ written := by decide +kernel
theorem main_arg11_kept : main_arg11 ∉ written := by decide +kernel
theorem main_arg12_kept : main_arg12 ∉ written := by decide +kernel

/-- @main, from any memory with zero counters, always terminates with every argument as the launch has it. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h c main_arg0 rfl).trans (final_keep m c main_arg0 main_arg0_kept),
    (h c main_arg1 rfl).trans (final_keep m c main_arg1 main_arg1_kept),
    (h c main_arg2 rfl).trans (final_keep m c main_arg2 main_arg2_kept),
    (h c main_arg3 rfl).trans (final_keep m c main_arg3 main_arg3_kept),
    (h c main_arg4 rfl).trans (final_keep m c main_arg4 main_arg4_kept),
    (h c main_arg5 rfl).trans (final_keep m c main_arg5 main_arg5_kept),
    (h c main_arg6 rfl).trans (final_keep m c main_arg6 main_arg6_kept),
    (h c main_arg7 rfl).trans (final_keep m c main_arg7 main_arg7_kept),
    (h c main_arg8 rfl).trans (final_keep m c main_arg8 main_arg8_kept),
    (h c main_arg9 rfl).trans (final_keep m c main_arg9 main_arg9_kept),
    (h c main_arg10 rfl).trans (final_keep m c main_arg10 main_arg10_kept),
    (h c main_arg11 rfl).trans (final_keep m c main_arg11 main_arg11_kept),
    (h c main_arg12 rfl).trans (final_keep m c main_arg12 main_arg12_kept)⟩,
    sem_eq_zero_of_no_sems (by decide) r.2⟩) (run_fold m ρ)

end Cert.ReferenceIdeal.Fold

end
-- ==== Proof.ReferenceIdeal.Trip.lean ====
/- The reference's loop, read at an index: what the stretch before it hands over, and what one trip leaves. -/
module

public import proofs.«01_k».proof.Proof.ReferenceIdeal.Fold
public import proofs.«01_k».proof.Proof.Math.Row
public import Idealize.ShloMosaic.Lib.StableHlo.ReadAt
public import Idealize.ShloMosaic.Lib.DynamicIndex
public import Idealize.ShloMosaic.Lib.Pointwise

@[expose] public section

noncomputable section

namespace Cert.ReferenceIdeal.Value

open Idealize.ShloMosaic Idealize.ShloMosaic.TcCoe Cert.ReferenceIdeal Cert.ReferenceIdeal.Gen Cert.ReferenceIdeal.Fold Cert.Lstm

/-! ## The slice at the counter -/

/-- A slice taken where the counter says starts there: the counter is in range. -/
theorem clamp_at (k : ℕ) (hk : k < 1024) (st : Fin 3 → Int) (h0 : st 0 = k) (h1 : st 1 = 0) (h2 : st 2 = 0) (h : S1x144x128.rank = S1024x144x128.rank) :
    Host.clampedStart S1024x144x128 S1x144x128 h st = (![k, 0, 0] : Fin 3 → ℕ) := by
  funext a
  fin_cases a
  · exact Host.clampedStart_of_le h st 0 k h0 (show k + 1 ≤ 1024 by omega)
  · exact Host.clampedStart_of_le h st 1 0 h1 (show 0 + 144 ≤ 144 by omega)
  · exact Host.clampedStart_of_le h st 2 0 h2 (show 0 + 128 ≤ 128 by omega)

/-- Reading the slice that starts at `c`. -/
theorem slice_read (X : S1024x144x128.Idx → EReal) (k : ℕ) (hk : k < 1024) (c : Fin 3 → ℕ) (hc : c = ![k, 0, 0]) (r : Fin 144) (h : Fin 128)
    (p0 : c 0 < 1024) (p1 : c 1 + r.val < 144) (p2 : c 2 + h.val < 128) :
    X (ix3 ⟨c 0, p0⟩ ⟨c 1 + r.val, p1⟩ ⟨c 2 + h.val, p2⟩) = X (ix3 ⟨k, hk⟩ r h) := by
  subst hc
  have e1 : (⟨(![k, 0, 0] : Fin 3 → ℕ) 1 + r.val, p1⟩ : Fin 144) = r := Fin.ext (Nat.zero_add _)
  have e2 : (⟨(![k, 0, 0] : Fin 3 → ℕ) 2 + h.val, p2⟩ : Fin 128) = h := Fin.ext (Nat.zero_add _)
  rw [e1, e2]
  rfl

/-- Reading the array after the slice that starts at `c` is written. -/
theorem update_read (Y : S144x128.Idx → EReal) (x : EReal) (k : ℕ) (c : Fin 3 → ℕ) (hc : c = ![k, 0, 0]) (t : Fin 1024) (r : Fin 144) (h : Fin 128) :
    (if _a : (c 0 ≤ t.val ∧ t.val < c 0 + 1) ∧ c 1 ≤ r.val ∧ c 2 ≤ h.val then Y (ix2 ⟨r.val - c 1, by omega⟩ ⟨h.val - c 2, by omega⟩) else x) =
      if t.val = k then Y (ix2 r h) else x := by
  subst hc
  have e0 : ((![k, 0, 0] : Fin 3 → ℕ) 0 ≤ t.val ∧ t.val < (![k, 0, 0] : Fin 3 → ℕ) 0 + 1) ∧ (![k, 0, 0] : Fin 3 → ℕ) 1 ≤ r.val ∧ (![k, 0, 0] : Fin 3 → ℕ) 2 ≤ h.val ↔ t.val = k :=
    ⟨fun ⟨⟨a, b⟩, _⟩ => by change k ≤ t.val at a; change t.val < k + 1 at b; omega,
      fun e => ⟨⟨e.ge, by change t.val < k + 1; omega⟩, Nat.zero_le _, Nat.zero_le _⟩⟩
  by_cases ht : t.val = k
  · rw [if_pos ht, dif_pos (e0.mpr ht)]
    rfl
  · rw [if_neg ht, dif_neg (fun e => ht (e0.mp e))]

/-! ## The stretches, at an index -/

variable (V : Valuation τ sig (Elt Ideal))

/-- The recurrence's inputs, time by time: row `9 g + k` at time `t` is the event `t` of sequence `g`, scattered to position `k`. -/
theorem xs_at (t : Fin 1024) (r : Fin 144) (h : Fin 128) (a : Fin 128 → EReal) (b : Fin 128 → EReal)
    (ha : ∀ i, V (Proc.devRef .tc main_arg0) (ix2 ⟨r.val / 9 * 1024 + t.val, by omega⟩ i) = a i)
    (hb : ∀ i : Fin 128, V (Proc.devRef .tc main_arg7) (ix2 ⟨r.val % 9, by omega⟩ ⟨h.val * 128 + i.val, by omega⟩) = b i) :
    StableHlo.after hostOps0 V (Proc.devRef .tc main_v8_0) (ix3 t r h) = ∑ i, a i * b i := by
  obtain rfl := funext ha
  obtain rfl := funext hb
  clear ha hb
  after_reads_at
  rfl

/-- The first hidden state is zero. -/
theorem h0_at (r : Fin 144) (q : Fin 128) : StableHlo.after hostOps0 V (Proc.devRef .tc main_v8_4) (ix2 r q) = (0 : EReal) := by
  after_reads_at
  exact Ideal.ofBits_zero_f32

/-- The first cell state is zero. -/
theorem c0_at (r : Fin 144) (q : Fin 128) : StableHlo.after hostOps0 V (Proc.devRef .tc main_v8_5) (ix2 r q) = (0 : EReal) := by
  after_reads_at
  exact Ideal.ofBits_zero_f32

/-- The trip's input is the recurrence's input at the counter. -/
theorem v42_at (k : ℕ) (hk : k < 1024) (hc : V (Proc.devRef .tc main_v8_3) = fun _ => BitVec.ofNat 32 k) (r : Fin 144) (h : Fin 128) :
    StableHlo.after while0Ops0 V (Proc.devRef .tc main_while0b_v42) (ix2 r h) = V (Proc.devRef .tc main_v8_0) (ix3 ⟨k, hk⟩ r h) := by
  after_reads_at
  refine slice_read _ k hk _ (clamp_at k hk _ ?_ ?_ ?_ _) r h _ _ _
  · show BitVec.toInt (StableHlo.upto while0Ops0 V 2 (Proc.devRef .tc main_v8_3) (Shape.Idx.first h_S_)) = (k : Int)
    rw [StableHlo.upto_unwritten [main_while0b_call0_c, main_while0b_call0_c_0] rfl (by decide) V, hc]
    exact toInt_ofNat_of_lt (by omega)
  · rfl
  · rfl

/-- The hidden states after the trip's store. -/
theorem v76_at (k : ℕ) (hk : k < 1024) (hc : V (Proc.devRef .tc main_v8_3) = fun _ => BitVec.ofNat 32 k) (t : Fin 1024) (r : Fin 144) (h : Fin 128) :
    StableHlo.after while0Ops0_2 V (Proc.devRef .tc main_while0b_v76) (ix3 t r h) =
      if t.val = k then V (Proc.devRef .tc main_while0b_v75) (ix2 r h) else V (Proc.devRef .tc main_v8_6) (ix3 t r h) := by
  after_reads_at
  refine update_read _ _ k _ (clamp_at k hk _ ?_ ?_ ?_ _) t r h
  · show BitVec.toInt (StableHlo.upto while0Ops0_2 V 3 (Proc.devRef .tc main_v8_3) (Shape.Idx.first h_S_)) = (k : Int)
    rw [StableHlo.upto_unwritten [main_while0b_call1_v0, main_while0b_call1_c, main_while0b_call1_c_0] rfl (by decide) V, hc]
    exact toInt_ofNat_of_lt (by omega)
  · rfl
  · rfl

/-- The new cell state of a row: its gates are the slice's product with the input weights plus the hidden state's
    product with the recurrent weights. -/
theorem v73_at (r : Fin 144) (q : Fin 128) (x : Fin 128 → EReal) (w u : Fin 512 → Fin 128 → EReal) (h c : Fin 128 → EReal)
    (hx : ∀ i, V (Proc.devRef .tc main_while0b_v42) (ix2 r i) = x i) (hw : ∀ j i, V (Proc.devRef .tc main_v8_1) (ix2 j i) = w j i)
    (hu : ∀ j q, V (Proc.devRef .tc main_v8_2) (ix2 j q) = u j q) (hh : ∀ q, V (Proc.devRef .tc main_v8_4) (ix2 r q) = h q)
    (hc : ∀ q, V (Proc.devRef .tc main_v8_5) (ix2 r q) = c q) :
    StableHlo.after while0Ops0_1 V (Proc.devRef .tc main_while0b_v73) (ix2 r q) =
      cell (pre u (fun j => ∑ i, x i * w j i) h) c q := by
  obtain rfl := funext hx
  obtain rfl := funext fun j => funext (hw j)
  obtain rfl := funext fun j => funext (hu j)
  obtain rfl := funext hh
  obtain rfl := funext hc
  clear hx hw hu hh hc
  after_reads_at
  rfl

/-- The new hidden state of a row. -/
theorem v75_at (r : Fin 144) (q : Fin 128) (x : Fin 128 → EReal) (w u : Fin 512 → Fin 128 → EReal) (h c : Fin 128 → EReal)
    (hx : ∀ i, V (Proc.devRef .tc main_while0b_v42) (ix2 r i) = x i) (hw : ∀ j i, V (Proc.devRef .tc main_v8_1) (ix2 j i) = w j i)
    (hu : ∀ j q, V (Proc.devRef .tc main_v8_2) (ix2 j q) = u j q) (hh : ∀ q, V (Proc.devRef .tc main_v8_4) (ix2 r q) = h q)
    (hc : ∀ q, V (Proc.devRef .tc main_v8_5) (ix2 r q) = c q) :
    StableHlo.after while0Ops0_1 V (Proc.devRef .tc main_while0b_v75) (ix2 r q) =
      hidden (pre u (fun j => ∑ i, x i * w j i) h) (cell (pre u (fun j => ∑ i, x i * w j i) h) c) q := by
  obtain rfl := funext hx
  obtain rfl := funext fun j => funext (hw j)
  obtain rfl := funext fun j => funext (hu j)
  obtain rfl := funext hh
  obtain rfl := funext hc
  clear hx hw hu hh hc
  after_reads_at
  rfl

/-! ## The carry -/

theorem carry_h (i : S144x128.Idx) :
    StableHlo.after while0Ops0_3 V (Proc.devRef .tc main_v8_4) i = V (Proc.devRef .tc main_while0b_v75) i := by
  after_reads_simp
  rfl

theorem carry_c (i : S144x128.Idx) :
    StableHlo.after while0Ops0_3 V (Proc.devRef .tc main_v8_5) i = V (Proc.devRef .tc main_while0b_v73) i := by
  after_reads_simp
  rfl

theorem carry_hs (i : S1024x144x128.Idx) :
    StableHlo.after while0Ops0_3 V (Proc.devRef .tc main_v8_6) i = V (Proc.devRef .tc main_while0b_v76) i := by
  after_reads_simp
  rfl

end Cert.ReferenceIdeal.Value

end
-- ==== Proof.ReferenceIdeal.Rows.lean ====
/- The reference's loop over its trips: after `k` of them every row holds its states after `k` steps. -/
module

public import proofs.«01_k».proof.Proof.ReferenceIdeal.Trip

@[expose] public section

noncomputable section

namespace Cert.ReferenceIdeal.Value

open Idealize.ShloMosaic Idealize.ShloMosaic.TcCoe Idealize.ShloMosaic.StableHlo Cert.ReferenceIdeal Cert.ReferenceIdeal.Gen Cert.ReferenceIdeal.Fold Cert.Lstm

/-! ## One trip -/

section trip

variable (V : Valuation τ sig (Elt Ideal))

/-- A trip's contents: the condition's operations, then the body's. -/
abbrev trip : Valuation τ sig (Elt Ideal) := afterL bodyI (after condOps V)

theorem trip_eq : trip V = after while0Ops0_3 (after while0Ops0_2 (after while0Ops0_1 (after while0Ops0 (after condOps V)))) := by
  simp only [trip, afterL_cons, afterL_nil]

/-- A reference no operation of a trip writes keeps its contents. -/
theorem trip_keep (b : Ref sig .tc) (hc : b ∉ condOps_W) (h0 : b ∉ while0Ops0_W) (h1 : b ∉ while0Ops0_1_W) (h2 : b ∉ while0Ops0_2_W)
    (h3 : b ∉ while0Ops0_3_W) : trip V (Proc.devRef .tc b) = V (Proc.devRef .tc b) := by
  rw [trip_eq, after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- The contents when the gates' stretch starts. -/
abbrev atGates : Valuation τ sig (Elt Ideal) := after while0Ops0 (after condOps V)

theorem atGates_keep (b : Ref sig .tc) (hc : b ∉ condOps_W) (h0 : b ∉ while0Ops0_W) :
    atGates V (Proc.devRef .tc b) = V (Proc.devRef .tc b) := by
  rw [atGates, after_of_writes_sub while0Ops0 _ while0Ops0_writes h0, after_of_writes_sub condOps _ condOps_writes hc]

variable (k : ℕ) (hk : k < 1024) (hctr : V (Proc.devRef .tc main_v8_3) = fun _ => BitVec.ofNat 32 k)
  (r : Fin 144) (q : Fin 128) (x : Fin 128 → EReal) (w u : Fin 512 → Fin 128 → EReal) (h c : Fin 128 → EReal)
  (hx : ∀ i, V (Proc.devRef .tc main_v8_0) (ix3 ⟨k, hk⟩ r i) = x i) (hw : ∀ j i, V (Proc.devRef .tc main_v8_1) (ix2 j i) = w j i)
  (hu : ∀ j q, V (Proc.devRef .tc main_v8_2) (ix2 j q) = u j q) (hh : ∀ q, V (Proc.devRef .tc main_v8_4) (ix2 r q) = h q)
  (hc : ∀ q, V (Proc.devRef .tc main_v8_5) (ix2 r q) = c q)

include hctr hx in
theorem atGates_x (i : Fin 128) : atGates V (Proc.devRef .tc main_while0b_v42) (ix2 r i) = x i := by
  have e3 : after condOps V (Proc.devRef .tc main_v8_3) = V (Proc.devRef .tc main_v8_3) := after_of_writes_sub condOps V condOps_writes (by decide)
  have e0 : after condOps V (Proc.devRef .tc main_v8_0) = V (Proc.devRef .tc main_v8_0) := after_of_writes_sub condOps V condOps_writes (by decide)
  refine (v42_at (after condOps V) k hk (e3.trans hctr) r i).trans ?_
  rw [e0]
  exact hx i

include hctr hx hw hu hh hc

theorem gates_c : after while0Ops0_1 (atGates V) (Proc.devRef .tc main_while0b_v73) (ix2 r q) = cell (pre u (fun j => ∑ i, x i * w j i) h) c q :=
  v73_at (atGates V) r q x w u h c (atGates_x V k hk hctr r x hx)
    (fun j i => by rw [atGates_keep V main_v8_1 (by decide) (by decide)]; exact hw j i)
    (fun j i => by rw [atGates_keep V main_v8_2 (by decide) (by decide)]; exact hu j i)
    (fun i => by rw [atGates_keep V main_v8_4 (by decide) (by decide)]; exact hh i)
    (fun i => by rw [atGates_keep V main_v8_5 (by decide) (by decide)]; exact hc i)

theorem gates_h : after while0Ops0_1 (atGates V) (Proc.devRef .tc main_while0b_v75) (ix2 r q) =
    hidden (pre u (fun j => ∑ i, x i * w j i) h) (cell (pre u (fun j => ∑ i, x i * w j i) h) c) q :=
  v75_at (atGates V) r q x w u h c (atGates_x V k hk hctr r x hx)
    (fun j i => by rw [atGates_keep V main_v8_1 (by decide) (by decide)]; exact hw j i)
    (fun j i => by rw [atGates_keep V main_v8_2 (by decide) (by decide)]; exact hu j i)
    (fun i => by rw [atGates_keep V main_v8_4 (by decide) (by decide)]; exact hh i)
    (fun i => by rw [atGates_keep V main_v8_5 (by decide) (by decide)]; exact hc i)

/-- A trip steps a row's cell state. -/
theorem trip_c : trip V (Proc.devRef .tc main_v8_5) (ix2 r q) = cell (pre u (fun j => ∑ i, x i * w j i) h) c q := by
  rw [trip_eq]
  refine (carry_c _ (ix2 r q)).trans ?_
  rw [after_of_writes_sub while0Ops0_2 _ while0Ops0_2_writes (by decide)]
  exact gates_c V k hk hctr r q x w u h c hx hw hu hh hc

/-- A trip steps a row's hidden state. -/
theorem trip_h : trip V (Proc.devRef .tc main_v8_4) (ix2 r q) =
    hidden (pre u (fun j => ∑ i, x i * w j i) h) (cell (pre u (fun j => ∑ i, x i * w j i) h) c) q := by
  rw [trip_eq]
  refine (carry_h _ (ix2 r q)).trans ?_
  rw [after_of_writes_sub while0Ops0_2 _ while0Ops0_2_writes (by decide)]
  exact gates_h V k hk hctr r q x w u h c hx hw hu hh hc

/-- A trip stores the new hidden state at its own time and keeps the others. -/
theorem trip_hs (t : Fin 1024) (y : EReal) (hy : t.val ≠ k → V (Proc.devRef .tc main_v8_6) (ix3 t r q) = y) :
    trip V (Proc.devRef .tc main_v8_6) (ix3 t r q) =
      if t.val = k then hidden (pre u (fun j => ∑ i, x i * w j i) h) (cell (pre u (fun j => ∑ i, x i * w j i) h) c) q else y := by
  rw [trip_eq]
  refine (carry_hs _ (ix3 t r q)).trans ?_
  refine (v76_at _ k hk ?_ t r q).trans ?_
  · rw [after_of_writes_sub while0Ops0_1 _ while0Ops0_1_writes (by decide)]
    exact (atGates_keep V main_v8_3 (by decide) (by decide)).trans hctr
  · by_cases ht : t.val = k
    · rw [if_pos ht, if_pos ht]
      exact gates_h V k hk hctr r q x w u h c hx hw hu hh hc
    · rw [if_neg ht, if_neg ht, after_of_writes_sub while0Ops0_1 _ while0Ops0_1_writes (by decide)]
      exact (congrFun (atGates_keep V main_v8_6 (by decide) (by decide)) _).trans (hy ht)

end trip

/-! ## All the trips -/

section rows

variable (m : (ℓ : Loc nD τ sig) → Buf (Elt Ideal) ℓ) (c : Dev nD)

/-- The events. -/
def evs : Fin 16384 → Fin 128 → EReal := fun n i => m ((c : Thread nD τ).loc main_arg0) (ix2 n i)
/-- The scatter weights: position, hidden lane, event lane. -/
def scat : Fin 9 → Fin 128 → Fin 128 → EReal := fun k h i => m ((c : Thread nD τ).loc main_arg7) (ix2 k ⟨h.val * 128 + i.val, by omega⟩)
/-- The gather weights: position, result lane, hidden lane. -/
def gath : Fin 9 → Fin 128 → Fin 128 → EReal := fun k j q => m ((c : Thread nD τ).loc main_arg8) (ix2 k ⟨j.val * 128 + q.val, by omega⟩)
/-- The input weights. -/
def inW : Fin 512 → Fin 128 → EReal := fun j h => m ((c : Thread nD τ).loc main_arg9) (ix2 j h)
/-- The recurrent weights. -/
def recW : Fin 512 → Fin 128 → EReal := fun j q => m ((c : Thread nD τ).loc main_arg10) (ix2 j q)
/-- The normalisation's scales. -/
def gam : Fin 128 → EReal := fun j => m ((c : Thread nD τ).loc main_arg11) (ix1 j)
/-- The normalisation's offsets. -/
def bet : Fin 128 → EReal := fun j => m ((c : Thread nD τ).loc main_arg12) (ix1 j)

/-- The sequence a row belongs to. -/
def seqOf (r : Fin 144) : Fin 16 := ⟨r.val / 9, by omega⟩
/-- The kernel position a row belongs to. -/
def posOf (r : Fin 144) : Fin 9 := ⟨r.val % 9, by omega⟩

/-- A row's states after `k` steps. -/
abbrev rowOf (r : Fin 144) (k : ℕ) : RowState := rowAt (evs m c) (scat m c) (inW m c) (recW m c) (seqOf r) (posOf r) k

/-- A row's scattered input at a time. -/
def xOf (r : Fin 144) (t : ℕ) (h : Fin 128) : EReal := ∑ i, evs m c (event (seqOf r) t) i * scat m c (posOf r) h i

theorem entry_eq : atK m 0 c = after hostOps0 (entryContents [] m c) := by
  simp only [atK, atTrip, entryContents, afterL_cons, afterL_nil]

theorem rows_x0 (t : Fin 1024) (r : Fin 144) (h : Fin 128) :
    atK m 0 c (Proc.devRef .tc main_v8_0) (ix3 t r h) = xOf m c r t.val h := by
  rw [entry_eq]
  refine xs_at _ t r h _ _ (fun i => ?_) (fun i => rfl)
  have e : event (seqOf r) t.val = ⟨r.val / 9 * 1024 + t.val, by omega⟩ :=
    Fin.ext (by show r.val / 9 * 1024 + t.val % 1024 = _; rw [Nat.mod_eq_of_lt t.isLt])
  rw [e]
  rfl

theorem rows_w0 (j : Fin 512) (i : Fin 128) : atK m 0 c (Proc.devRef .tc main_v8_1) (ix2 j i) = inW m c j i := by
  rw [entry_eq]
  after_reads_simp
  rfl

theorem rows_u0 (j : Fin 512) (i : Fin 128) : atK m 0 c (Proc.devRef .tc main_v8_2) (ix2 j i) = recW m c j i := by
  rw [entry_eq]
  after_reads_simp
  rfl

theorem atK_succ (k : ℕ) : atK m (k + 1) c = trip (atK m k c) := rfl

/-- A reference no trip writes holds at every trip what it holds at the first. -/
theorem atK_const (b : Ref sig .tc) (hc : b ∉ condOps_W) (h0 : b ∉ while0Ops0_W) (h1 : b ∉ while0Ops0_1_W) (h2 : b ∉ while0Ops0_2_W)
    (h3 : b ∉ while0Ops0_3_W) (k : ℕ) : atK m k c (Proc.devRef .tc b) = atK m 0 c (Proc.devRef .tc b) := by
  induction k with
  | zero => rfl
  | succ k ih => rw [atK_succ, trip_keep _ b hc h0 h1 h2 h3, ih]

theorem rows_x (k : ℕ) (t : Fin 1024) (r : Fin 144) (h : Fin 128) : atK m k c (Proc.devRef .tc main_v8_0) (ix3 t r h) = xOf m c r t.val h := by
  rw [atK_const m c main_v8_0 (by decide) (by decide) (by decide) (by decide) (by decide) k]
  exact rows_x0 m c t r h

theorem rows_w (k : ℕ) (j : Fin 512) (i : Fin 128) : atK m k c (Proc.devRef .tc main_v8_1) (ix2 j i) = inW m c j i := by
  rw [atK_const m c main_v8_1 (by decide) (by decide) (by decide) (by decide) (by decide) k]
  exact rows_w0 m c j i

theorem rows_u (k : ℕ) (j : Fin 512) (i : Fin 128) : atK m k c (Proc.devRef .tc main_v8_2) (ix2 j i) = recW m c j i := by
  rw [atK_const m c main_v8_2 (by decide) (by decide) (by decide) (by decide) (by decide) k]
  exact rows_u0 m c j i

/-- The trip counter, as a word. -/
theorem atK_counter (k : ℕ) : atK m k c (Proc.devRef .tc main_v8_3) = fun _ => BitVec.ofNat 32 k := by
  rw [atK_ctr]
  funext _
  simp [Scf.iv]

/-- After `k` trips each row holds its states after `k` steps. -/
theorem rows_state (k : ℕ) (hk : k ≤ 1024) (r : Fin 144) (q : Fin 128) :
    atK m k c (Proc.devRef .tc main_v8_4) (ix2 r q) = (rowOf m c r k).1 q ∧ atK m k c (Proc.devRef .tc main_v8_5) (ix2 r q) = (rowOf m c r k).2 q := by
  induction k generalizing q with
  | zero =>
    rw [entry_eq]
    exact ⟨h0_at _ r q, c0_at _ r q⟩
  | succ k ih =>
    rw [atK_succ]
    exact ⟨trip_h (atK m k c) k (by omega) (atK_counter m c k) r q (xOf m c r k) (inW m c) (recW m c) _ _ (rows_x m c k _ r) (rows_w m c k) (rows_u m c k)
        (fun q => (ih (by omega) q).1) (fun q => (ih (by omega) q).2),
      trip_c (atK m k c) k (by omega) (atK_counter m c k) r q (xOf m c r k) (inW m c) (recW m c) _ _ (rows_x m c k _ r) (rows_w m c k) (rows_u m c k)
        (fun q => (ih (by omega) q).1) (fun q => (ih (by omega) q).2)⟩

/-- After `k` trips the stored array holds, at every time before `k`, the hidden state after that time's step. -/
theorem rows_stored (k : ℕ) (hk : k ≤ 1024) (t : Fin 1024) (ht : t.val < k) (r : Fin 144) (q : Fin 128) :
    atK m k c (Proc.devRef .tc main_v8_6) (ix3 t r q) = (rowOf m c r (t.val + 1)).1 q := by
  induction k with
  | zero => omega
  | succ k ih =>
    rw [atK_succ]
    refine (trip_hs (atK m k c) k (by omega) (atK_counter m c k) r q (xOf m c r k) (inW m c) (recW m c) _ _ (rows_x m c k _ r) (rows_w m c k) (rows_u m c k)
        (fun q => (rows_state m c k (by omega) r q).1) (fun q => (rows_state m c k (by omega) r q).2) t ((rowOf m c r (t.val + 1)).1 q)
        (fun hne => ih (by omega) (by omega))).trans ?_
    by_cases e : t.val = k
    · rw [if_pos e, e]
      rfl
    · rw [if_neg e]

end rows

end Cert.ReferenceIdeal.Value

end
-- ==== Proof.ReferenceIdeal.Scatter.lean ====
/- The reference's scatter of nine update rows into each result row, as a sum over the nine. -/
module

public import proofs.«01_k».proof.Proof.ReferenceIdeal.Fold
public import proofs.«01_k».proof.Proof.Math.Row
public import Idealize.ShloMosaic.Lib.StableHlo.ReadAt
public import Idealize.ShloMosaic.Lib.Pointwise
public import Idealize.ShloMosaic.Lib.DynamicIndex
public import Idealize.ShloMosaic.Lib.Routing.OpsPair

@[expose] public section

noncomputable section

namespace Cert.ReferenceIdeal.Value

open Idealize.ShloMosaic Idealize.ShloMosaic.TcCoe Cert.ReferenceIdeal Cert.ReferenceIdeal.Gen Cert.ReferenceIdeal.Fold Cert.Lstm

/-! ## The scatter -/

/-- The scatter's dimension numbers: update row `u` is added to the row its index word names. -/
abbrev D : ScatterDims S16384x128 S147456x1 S147456x128 := scatter_S16384x128_S147456x1_S147456x128_1_0_0_1

theorem window0 (u : Fin 147456) (j : Fin 128) : D.window (ix2 u j) 0 = 0 := by
  unfold ScatterDims.window
  rw [dif_neg (by decide)]

theorem window1 (u : Fin 147456) (j : Fin 128) : D.window (ix2 u j) 1 = j.val := by
  unfold ScatterDims.window
  rw [dif_pos (by decide)]
  rfl

theorem start0 (idx : IVec S147456x1 32) (u : Fin 147456) (j : Fin 128) : D.start (ix2 u j) idx 0 = (idx (ix2 u 0)).toInt := by
  unfold ScatterDims.start
  rw [dif_pos (by decide)]
  refine congrArg (fun i => (idx i).toInt) ?_
  funext b
  fin_cases b
  · rfl
  · rfl

theorem start1 (idx : IVec S147456x1 32) (u : Fin 147456) (j : Fin 128) : D.start (ix2 u j) idx 1 = 0 := by
  unfold ScatterDims.start
  rw [dif_neg (by decide)]

/-- Where an update lands. -/
theorem lands (idx : IVec S147456x1 32) (u : Fin 147456) (j : Fin 128) (n : Fin 16384) (l : Fin 128) :
    D.resultIdx? (ix2 u j) idx = some (ix2 n l) ↔ (idx (ix2 u 0)).toInt = (n.val : Int) ∧ j = l := by
  rw [Routing.resultIdx?_eq_some]
  constructor
  · intro h
    have h0 := h 0
    have h1 := h 1
    rw [start0, window0] at h0
    rw [start1, window1] at h1
    change _ = (n.val : Int) at h0
    change _ = (l.val : Int) at h1
    exact ⟨by omega, Fin.ext (by omega)⟩
  · rintro ⟨h0, rfl⟩ a
    fin_cases a
    · show D.start (ix2 u j) idx 0 + (D.window (ix2 u j) 0 : Int) = (n.val : Int)
      rw [start0, window0]
      omega
    · show D.start (ix2 u j) idx 1 + (D.window (ix2 u j) 1 : Int) = (j.val : Int)
      rw [start1, window1]
      omega

/-- With update row `u` sent to row `u / 9`, a result row is its own row plus its nine updates. -/
theorem scatter_sum (x : FVec Ideal S16384x128 .f32) (idx : IVec S147456x1 32) (upd : FVec Ideal S147456x128 .f32)
    (hidx : ∀ u : Fin 147456, idx (ix2 u 0) = BitVec.ofNat 32 (u.val / 9)) (n : Fin 16384) (l : Fin 128) :
    Ideal.hostScatterAdd D x idx upd (ix2 n l) = x (ix2 n l) + ∑ k : Fin 9, upd (ix2 ⟨n.val * 9 + k.val, by omega⟩ l) := by
  unfold Ideal.hostScatterAdd
  refine congrArg (x (ix2 n l) + ·) ?_
  have hw : ∀ u : Fin 147456, (idx (ix2 u 0)).toInt = ((u.val / 9 : ℕ) : Int) := fun u => by
    rw [hidx u]
    exact toInt_ofNat_of_lt (by omega)
  symm
  refine Finset.sum_nbij (fun k : Fin 9 => (ix2 ⟨n.val * 9 + k.val, by omega⟩ l : S147456x128.Idx)) ?_ ?_ ?_ ?_
  · intro k _
    rw [Finset.mem_filter]
    refine ⟨Finset.mem_univ _, (lands idx _ l n l).mpr ⟨?_, rfl⟩⟩
    rw [hw]
    exact congrArg _ (by show (n.val * 9 + k.val) / 9 = n.val; omega)
  · intro a _ b _ hab
    have h := congrArg (fun i : S147456x128.Idx => (i 0).val) hab
    change n.val * 9 + a.val = n.val * 9 + b.val at h
    exact Fin.ext (by omega)
  · intro i hi
    rw [Finset.mem_coe, Finset.mem_filter] at hi
    obtain ⟨u, j, rfl⟩ : ∃ (u : Fin 147456) (j : Fin 128), i = ix2 u j := ⟨i 0, i 1, eq_ix2 i⟩
    obtain ⟨h0, rfl⟩ := (lands idx u j n l).mp hi.2
    rw [hw] at h0
    refine ⟨⟨u.val % 9, by omega⟩, Finset.mem_coe.mpr (Finset.mem_univ _), ?_⟩
    have e : (⟨n.val * 9 + u.val % 9, by omega⟩ : Fin 147456) = u := Fin.ext (by show n.val * 9 + u.val % 9 = u.val; omega)
    show ix2 (⟨n.val * 9 + u.val % 9, _⟩ : Fin 147456) j = ix2 u j
    rw [e]
  · intro k _
    rfl

/-- The same from a zero array, the update rows being the projected hidden states. -/
theorem scatter_project (x : FVec Ideal S16384x128 .f32) (idx : IVec S147456x1 32) (upd : FVec Ideal S147456x128 .f32)
    (hid : Fin 9 → Fin 128 → EReal) (p : Fin 9 → Fin 128 → Fin 128 → EReal) (n : Fin 16384) (l : Fin 128) (hx : x (ix2 n l) = (0 : EReal))
    (hidx : ∀ u : Fin 147456, idx (ix2 u 0) = BitVec.ofNat 32 (u.val / 9))
    (hupd : ∀ k : Fin 9, upd (ix2 ⟨n.val * 9 + k.val, by omega⟩ l) = (∑ q : Fin 128, hid k q * p k l q : EReal)) :
    Ideal.hostScatterAdd D x idx upd (ix2 n l) = (∑ k : Fin 9, ∑ q : Fin 128, hid k q * p k l q : EReal) := by
  rw [scatter_sum x idx upd hidx n l, hx]
  refine (zero_add _).trans ?_
  exact Finset.sum_congr rfl fun k _ => hupd k

/-- Update row `9 n + k` reads position `k` and row `9 (n / 1024) + k` at time `n % 1024`. -/
theorem update_row (X : Fin 1024 → Fin 144 → Fin 128 → EReal) (W : Fin 9 → Fin 128 → EReal) (n : Fin 16384) (k : Fin 9) (u : Fin 147456)
    (hu : u.val = n.val * 9 + k.val) :
    (∑ q : Fin 128, W ⟨u.val % 9, by omega⟩ q * X ⟨u.val / 9 % 1024, by omega⟩ ⟨u.val / 9 / 1024 * 9 + u.val % 9, by omega⟩ q) =
      ∑ q : Fin 128, X ⟨n.val % 1024, by omega⟩ ⟨n.val / 1024 * 9 + k.val, by omega⟩ q * W k q := by
  have e1 : (⟨u.val % 9, by omega⟩ : Fin 9) = k := Fin.ext (by show u.val % 9 = k.val; omega)
  have e2 : (⟨u.val / 9 % 1024, by omega⟩ : Fin 1024) = ⟨n.val % 1024, by omega⟩ := Fin.ext (by show u.val / 9 % 1024 = n.val % 1024; omega)
  have e3 : (⟨u.val / 9 / 1024 * 9 + u.val % 9, by omega⟩ : Fin 144) = ⟨n.val / 1024 * 9 + k.val, by omega⟩ :=
    Fin.ext (by show u.val / 9 / 1024 * 9 + u.val % 9 = n.val / 1024 * 9 + k.val; omega)
  rw [e1, e2, e3]
  exact Finset.sum_congr rfl fun q _ => mul_comm _ _

end Cert.ReferenceIdeal.Value

end
-- ==== Proof.ReferenceIdeal.Tail.lean ====
/- The reference's host code after its loop, read at an index. -/
module

public import proofs.«01_k».proof.Proof.ReferenceIdeal.Scatter
public import proofs.«01_k».proof.Proof.Math.Row
public import Idealize.ShloMosaic.Lib.StableHlo.ReadAt
public import Idealize.ShloMosaic.Lib.Pointwise

@[expose] public section

noncomputable section

namespace Cert.ReferenceIdeal.Value

open Idealize.ShloMosaic Idealize.ShloMosaic.TcCoe Cert.ReferenceIdeal Cert.ReferenceIdeal.Gen Cert.ReferenceIdeal.Fold Cert.Lstm

variable (V : Valuation τ sig (Elt Ideal))

/-! ## The stretches, at an index -/

/-- Before the normalisation: the sum over the positions of the projected hidden states, plus the event. -/
theorem v23_at (n : Fin 16384) (j : Fin 128) (hid : Fin 9 → Fin 128 → EReal) (p : Fin 9 → Fin 128 → Fin 128 → EReal) (e : Fin 128 → EReal)
    (hh : ∀ k q, V (Proc.devRef .tc main_v8_6) (ix3 ⟨n.val % 1024, by omega⟩ ⟨n.val / 1024 * 9 + k.val, by omega⟩ q) = hid k q)
    (hp : ∀ (k : Fin 9) (j q : Fin 128), V (Proc.devRef .tc main_arg8) (ix2 k ⟨j.val * 128 + q.val, by omega⟩) = p k j q)
    (he : ∀ j, V (Proc.devRef .tc main_arg0) (ix2 n j) = e j) :
    StableHlo.after hostOps0_1 V (Proc.devRef .tc main_v23) (ix2 n j) = project hid p e j := by
  after_reads_at
  refine congrArg₂ (fun a b : EReal => a + b) (scatter_project _ _ _ hid p n j ?_ ?_ ?_) (he j)
  · exact Ideal.ofBits_zero_f32
  · intro u
    pointwise []
  · intro k
    refine (update_row (fun t r q => V (Proc.devRef .tc main_v8_6) (ix3 t r q))
      (fun k q => V (Proc.devRef .tc main_arg8) (ix2 k ⟨j.val * 128 + q.val, by omega⟩)) n k ⟨n.val * 9 + k.val, by omega⟩ rfl).trans ?_
    refine Finset.sum_congr rfl fun q _ => ?_
    exact congrArg₂ (fun a b : EReal => a * b) (hh k q) (hp k j q)

/-- The mean over the lanes. -/
theorem v27_at (n : Fin 16384) (y : Fin 128 → EReal) (hy : ∀ j, StableHlo.after hostOps0_1 V (Proc.devRef .tc main_v23) (ix2 n j) = y j) :
    StableHlo.after hostOps0_1 V (Proc.devRef .tc main_v27) (ix2 n 0) = mean y := by
  obtain rfl := funext hy
  clear hy
  after_reads_at
  unfold mean
  after_reads_at

/-- The count of lanes taken off the width: none. -/
theorem c4_at : StableHlo.after hostOps0_1 V (Proc.devRef .tc main_c_4) ix0 = 0#32 := by
  after_reads_at

/-- The variance over the lanes. -/
theorem v28_at (n : Fin 16384) (y : Fin 128 → EReal) (hy : ∀ j, V (Proc.devRef .tc main_v23) (ix2 n j) = y j)
    (hc : V (Proc.devRef .tc main_c_4) ix0 = 0#32) :
    StableHlo.after hostOps0_2 V (Proc.devRef .tc main_v28) (ix2 n 0) = var y := by
  obtain rfl := funext hy
  clear hy
  have h0 : FloatOps.sitofp (F := Ideal) .f32 (V (Proc.devRef .tc main_c_4) ix0) = (0 : EReal) := by
    rw [hc]
    show (((0#32 : BitVec 32).toInt : ℝ) : EReal) = 0
    simp
  have hw : Ideal.ofBits .f32 1124073472#32 - FloatOps.sitofp (F := Ideal) .f32 (V (Proc.devRef .tc main_c_4) ix0) =
      Ideal.ofBits .f32 1124073472#32 := by
    rw [h0]
    exact sub_zero _
  have hpos : (0 : EReal) < Ideal.ofBits .f32 1124073472#32 := by
    rw [ofBits_width]
    norm_num
  after_reads_at
  refine (congrArg (fun w : EReal => if 0 < w then Ideal.div _ w else _) hw).trans ?_
  rw [if_pos hpos]
  rfl

/-- The result from the row before the normalisation, its mean and its variance. -/
theorem v41_at (n : Fin 16384) (j : Fin 128) (y g b : Fin 128 → EReal) (hy : ∀ j, V (Proc.devRef .tc main_v23) (ix2 n j) = y j)
    (hm : V (Proc.devRef .tc main_v27) (ix2 n 0) = mean y) (hv : V (Proc.devRef .tc main_v28) (ix2 n 0) = var y)
    (hg : ∀ j, V (Proc.devRef .tc main_arg11) (ix1 j) = g j) (hb : ∀ j, V (Proc.devRef .tc main_arg12) (ix1 j) = b j) :
    StableHlo.after hostOps0_3 V (Proc.devRef .tc main_v41) (ix2 n j) = Lstm.norm y g b j := by
  after_reads_at
  unfold Lstm.norm
  rw [← hm, ← hv, ← hy, ← hg, ← hb]

end Cert.ReferenceIdeal.Value

end
-- ==== Proof.ReferenceIdeal.Value.lean ====
/- What the reference's result array holds: at row `1024 g + t` the result at time `t` of sequence `g`. -/
module

public import proofs.«01_k».proof.Proof.ReferenceIdeal.Rows
public import proofs.«01_k».proof.Proof.ReferenceIdeal.Tail

@[expose] public section

noncomputable section

namespace Cert.ReferenceIdeal.Value

open Idealize.ShloMosaic Idealize.ShloMosaic.TcCoe Idealize.ShloMosaic.StableHlo Cert.ReferenceIdeal Cert.ReferenceIdeal.Gen Cert.ReferenceIdeal.Fold Cert.Lstm

variable (m : (ℓ : Loc nD τ sig) → Buf (Elt Ideal) ℓ) (c : Dev nD)

/-- The contents when the loop has ended. -/
abbrev ended : Valuation τ sig (Elt Ideal) := after condOps (atK m 1024 c)

theorem final_eq : finalContents condOps preI bodyI postI 1024 m c =
    after hostOps0_3 (after hostOps0_2 (after hostOps0_1 (ended m c))) := by
  simp only [finalContents, afterL_cons, afterL_nil]

/-- An argument holds its launch contents when the loop has ended. -/
theorem ended_arg (b : Ref sig .tc) (h : b ∉ written) (hc : b ∉ condOps_W) :
    ended m c (Proc.devRef .tc b) = m ((c.tc : Thread nD τ).loc b) :=
  (after_of_writes_sub condOps _ condOps_writes hc).trans (atK_keep m c b h 1024)

/-- The stored hidden states when the loop has ended. -/
theorem ended_stored (t : Fin 1024) (r : Fin 144) (q : Fin 128) :
    ended m c (Proc.devRef .tc main_v8_6) (ix3 t r q) = (rowOf m c r (t.val + 1)).1 q := by
  have h : ended m c (Proc.devRef .tc main_v8_6) = atK m 1024 c (Proc.devRef .tc main_v8_6) :=
    after_of_writes_sub condOps _ condOps_writes (by decide)
  rw [h]
  exact rows_stored m c 1024 le_rfl t t.isLt r q

/-- Row `9 g + k` is position `k` of sequence `g`. -/
theorem row_of (g : Fin 16) (k : Fin 9) (t : ℕ) :
    rowOf m c ⟨g.val * 9 + k.val, by omega⟩ t = rowAt (evs m c) (scat m c) (inW m c) (recW m c) g k t := by
  have hs : seqOf ⟨g.val * 9 + k.val, by omega⟩ = g := Fin.ext (by show (g.val * 9 + k.val) / 9 = g.val; omega)
  have hp : posOf ⟨g.val * 9 + k.val, by omega⟩ = k := Fin.ext (by show (g.val * 9 + k.val) % 9 = k.val; omega)
  rw [rowOf, hs, hp]

/-- The row before the normalisation, at event `n`. -/
def rowY (n : Fin 16384) : Fin 128 → EReal :=
  project (fun k => (rowAt (evs m c) (scat m c) (inW m c) (recW m c) ⟨n.val / 1024, by omega⟩ k (n.val % 1024 + 1)).1) (gath m c) (evs m c n)

/-- The array before the normalisation. -/
theorem rowY_at (n : Fin 16384) (j : Fin 128) :
    after hostOps0_1 (ended m c) (Proc.devRef .tc main_v23) (ix2 n j) = rowY m c n j := by
  refine v23_at (ended m c) n j _ _ _ (fun k q => ?_) (fun k j q => ?_) (fun j => ?_)
  · refine (ended_stored m c ⟨n.val % 1024, by omega⟩ ⟨n.val / 1024 * 9 + k.val, by omega⟩ q).trans ?_
    rw [row_of m c ⟨n.val / 1024, by omega⟩ k]
  · rw [ended_arg m c main_arg8 main_arg8_kept (by decide)]
    rfl
  · rw [ended_arg m c main_arg0 main_arg0_kept (by decide)]
    rfl

/-- The reference's result, element by element. -/
theorem reference_value (n : Fin 16384) (j : Fin 128) :
    finalContents condOps preI bodyI postI 1024 m c (Proc.devRef .tc main_v41) (ix2 n j) =
      Lstm.result (evs m c) (scat m c) (gath m c) (inW m c) (recW m c) (gam m c) (bet m c) ⟨n.val / 1024, by omega⟩ (n.val % 1024) j := by
  rw [final_eq]
  have keep2 : ∀ b : Ref sig .tc, b ∉ hostOps0_2_W → after hostOps0_2 (after hostOps0_1 (ended m c)) (Proc.devRef .tc b) =
      after hostOps0_1 (ended m c) (Proc.devRef .tc b) := fun b h => after_of_writes_sub hostOps0_2 _ hostOps0_2_writes h
  have keep1 : ∀ b : Ref sig .tc, b ∉ hostOps0_1_W → after hostOps0_1 (ended m c) (Proc.devRef .tc b) =
      ended m c (Proc.devRef .tc b) := fun b h => after_of_writes_sub hostOps0_1 _ hostOps0_1_writes h
  have h : after hostOps0_3 (after hostOps0_2 (after hostOps0_1 (ended m c))) (Proc.devRef .tc main_v41) (ix2 n j) =
      Lstm.norm (rowY m c n) (gam m c) (bet m c) j := by
    refine v41_at (after hostOps0_2 (after hostOps0_1 (ended m c))) n j (rowY m c n) _ _ (fun j => ?_) ?_ ?_ (fun j => ?_) (fun j => ?_)
    · rw [keep2 main_v23 (by decide)]
      exact rowY_at m c n j
    · rw [keep2 main_v27 (by decide)]
      exact v27_at (ended m c) n (rowY m c n) (rowY_at m c n)
    · exact v28_at (after hostOps0_1 (ended m c)) n (rowY m c n) (rowY_at m c n) (c4_at (ended m c))
    · rw [keep2 main_arg11 (by decide), keep1 main_arg11 (by decide), ended_arg m c main_arg11 main_arg11_kept (by decide)]
      rfl
    · rw [keep2 main_arg12 (by decide), keep1 main_arg12 (by decide), ended_arg m c main_arg12 main_arg12_kept (by decide)]
      rfl
  refine h.trans ?_
  have he : event ⟨n.val / 1024, by omega⟩ (n.val % 1024) = n :=
    Fin.ext (by show n.val / 1024 * 1024 + n.val % 1024 % 1024 = n.val; omega)
  unfold Lstm.result rowY
  rw [he]

end Cert.ReferenceIdeal.Value

end
-- ==== Proof.lean ====
/- Every claim of this certificate, put together: the frames of the kernel as printed and idealized from the run of each
   (`Proof/Kernel/Whole.lean`, `Proof/KernelIdeal/Whole.lean`), the reference's from the fold of its operations
   (`Proof/ReferenceIdeal/Fold.lean`); the equality of the results from the value of each at an index
   (`Proof/KernelIdeal/Value.lean`, `Proof/ReferenceIdeal/Value.lean`), the same function of the same arguments. -/
module

public import proofs.«01_k».proof.Defs
public import proofs.«01_k».proof.Proof.Finite
public import proofs.«01_k».proof.Proof.Kernel.Whole
public import proofs.«01_k».proof.Proof.KernelIdeal.Value
public import proofs.«01_k».proof.Proof.ReferenceIdeal.Value
public import Idealize.ShloMosaic.Adequacy
public import Idealize.ShloMosaic.Lib.Claim
public import Idealize.ShloMosaic.Lib.StableHlo.RunHlo
public import Idealize.ShloMosaic.Init

@[expose] public section

noncomputable section

namespace Cert.Proof

open Idealize.ShloMosaic Idealize.ShloMosaic.TcCoe Idealize.SL.Sem

/-- The two programs' contents of the arguments agree, so the results do, the three arrays of the precondition being finite. -/
theorem results_agree (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ)
    (hpre : Pre_KernelIdeal_finite (hPre_finite := Pre_finite.facts) m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    (h11 : m' ((c.tc : Thread ReferenceIdeal.nD ReferenceIdeal.τ).loc ReferenceIdeal.main_arg11) = m ((c.tc : Thread KernelIdeal.nD KernelIdeal.τ).loc KernelIdeal.main_arg11))
    (h12 : m' ((c.tc : Thread ReferenceIdeal.nD ReferenceIdeal.τ).loc ReferenceIdeal.main_arg12) = m ((c.tc : Thread KernelIdeal.nD KernelIdeal.τ).loc KernelIdeal.main_arg12)) :
    StableHlo.finalContents ReferenceIdeal.Fold.condOps ReferenceIdeal.Fold.preI ReferenceIdeal.Fold.bodyI ReferenceIdeal.Fold.postI 1024 m' c
        (Proc.devRef .tc ReferenceIdeal.main_v41) =
      KernelIdeal.Run.W7 m g c (Proc.devRef .tc KernelIdeal.main_v29) := by
  obtain ⟨hev, hwsc, hwih⟩ := @Pre_finite.finite Pre_finite.facts _ _ _ _ _ _ _ _ _ _ _ _ _ (hpre c)
  have e0 : ReferenceIdeal.Value.evs m' c = KernelIdeal.Value.evs m c := by
    unfold ReferenceIdeal.Value.evs KernelIdeal.Value.evs; rw [h0]
  have e7 : ReferenceIdeal.Value.scat m' c = KernelIdeal.Value.scat m c := by
    unfold ReferenceIdeal.Value.scat KernelIdeal.Value.scat; rw [h7]
  have e8 : ReferenceIdeal.Value.gath m' c = KernelIdeal.Value.gath m c := by
    unfold ReferenceIdeal.Value.gath KernelIdeal.Value.gath; rw [h8]
  have e9 : ReferenceIdeal.Value.inW m' c = KernelIdeal.Value.inW m c := by
    unfold ReferenceIdeal.Value.inW KernelIdeal.Value.inW; rw [h9]
  have e10 : ReferenceIdeal.Value.recW m' c = KernelIdeal.Value.recW m c := by
    unfold ReferenceIdeal.Value.recW KernelIdeal.Value.recW; rw [h10]
  have e11 : ReferenceIdeal.Value.gam m' c = KernelIdeal.Value.gam m c := by
    unfold ReferenceIdeal.Value.gam KernelIdeal.Value.gam; rw [h11]
  have e12 : ReferenceIdeal.Value.bet m' c = KernelIdeal.Value.bet m c := by
    unfold ReferenceIdeal.Value.bet KernelIdeal.Value.bet; rw [h12]
  have key : ∀ (n : Fin 16384) (j : Fin 128),
      StableHlo.finalContents ReferenceIdeal.Fold.condOps ReferenceIdeal.Fold.preI ReferenceIdeal.Fold.bodyI ReferenceIdeal.Fold.postI 1024 m' c
        (Proc.devRef .tc ReferenceIdeal.main_v41) (ix2 n j) =
      KernelIdeal.Run.W7 m g c (Proc.devRef .tc KernelIdeal.main_v29) (ix2 n j) := fun n j => by
    refine (ReferenceIdeal.Value.reference_value m' c n j).trans (Eq.trans ?_
      (KernelIdeal.Value.kernel_value m g c (fun n i => hev _) (fun k h i => hwsc _) (fun j h => hwih _) n j).symm)
    rw [e0, e7, e8, e9, e10, e11, e12]
  funext i
  have hi := eq_ix2 (n0 := 16384) (n1 := 128) i
  rw [hi]
  exact key (i 0) (i 1)

/-- The kernel's result is the reference's. -/
theorem algebraic : algebraic_KernelIdeal_ReferenceIdeal_pre_finite (hKernelIdeal := KernelIdeal.Gen.facts)
    (hReferenceIdeal := ReferenceIdeal.Gen.facts) (hPre_finite := Pre_finite.facts) := by
  intro m g m' g' hpre hag
  refine ⟨fun c => KernelIdeal.Run.W7 m g c (Proc.devRef .tc KernelIdeal.main_v29), ?_, ?_⟩
  · exact θ_run_mono (θ_run_and (KernelIdeal.Run.result m g) (KernelIdeal.Run.frame m g)) fun r h c => ⟨h.1 c, h.2.1 c⟩
  · refine θ_run_mono (θ_run_and (ReferenceIdeal.Fold.run_fold m' g') (ReferenceIdeal.Fold.frame m' g')) fun r h c => ⟨?_, h.2.1 c⟩
    obtain ⟨h0, _, _, _, _, _, _, h7, h8, h9, h10, h11, h12⟩ := hag c
    exact (h.1 c ReferenceIdeal.main_v41 rfl).trans (results_agree m g m' hpre c h0 h7 h8 h9 h10 h11 h12)

/-- The claims. -/
theorem claim : Cert.Claim := ⟨Cert.Kernel.Gen.facts, Cert.KernelIdeal.Gen.facts, Cert.ReferenceIdeal.Gen.facts, Cert.Pre_finite.facts,
  fun m g _ => Cert.Kernel.Run.frame m g, fun m g _ => Cert.KernelIdeal.Run.frame m g, fun m g _ => Cert.KernelIdeal.Run.frame m g,
  fun m g _ => Cert.ReferenceIdeal.Fold.frame m g, fun m g _ => Cert.ReferenceIdeal.Fold.frame m g, trivial, algebraic⟩

end Cert.Proof

end
